-- ==== Defs.lean ====
def Pre_Clamped (m : (ℓ : Loc Cert.Clamped.nD Cert.Clamped.τ Cert.Clamped.sig) → Buf (Elt Bits) ℓ) : Prop :=
  True

def Pre_ClampedIdeal (m : (ℓ : Loc Cert.ClampedIdeal.nD Cert.ClampedIdeal.τ Cert.ClampedIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_some_nonzero [hPre_some_nonzero : Cert.Pre_some_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_nonzero.fn (F := Ideal) (m ((c.tc : Thread Cert.ReferenceIdeal.nD Cert.ReferenceIdeal.τ).loc Cert.ReferenceIdeal.main_arg0))) = (fun _ => 1#1)

def Pre_KernelIdeal [hPre_some_nonzero : Cert.Pre_some_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_some_nonzero.fn (F := Ideal) (m ((c.tc : Thread Cert.KernelIdeal.nD Cert.KernelIdeal.τ).loc Cert.KernelIdeal.main_arg0))) = (fun _ => 1#1)

def quiescent_Clamped [hClamped : Cert.Clamped.Facts] : Prop :=
  ∀ (m : (ℓ : Loc Cert.Clamped.nD Cert.Clamped.τ Cert.Clamped.sig) → Buf (Elt Bits) ℓ) (g : Dev Cert.Clamped.nD → PrngReg), Pre_Clamped m →
    θ_run (Cert.Clamped.defs (F := Bits)) (Cert.Clamped.threads (F := Bits)) ⟨m, fun _ => 0, g⟩ (fun r => (∀ c : Dev Cert.Clamped.nD,
      r.2.mem ((c.tc : Thread Cert.Clamped.nD Cert.Clamped.τ).loc Cert.Clamped.main_arg0) = m ((c.tc : Thread Cert.Clamped.nD Cert.Clamped.τ).loc Cert.Clamped.main_arg0))
      ∧ r.2.sem = fun _ => 0)

def quiescent_ClampedIdeal [hClampedIdeal : Cert.ClampedIdeal.Facts] : Prop :=
  ∀ (m : (ℓ : Loc Cert.ClampedIdeal.nD Cert.ClampedIdeal.τ Cert.ClampedIdeal.sig) → Buf (Elt Ideal) ℓ) (g : Dev Cert.ClampedIdeal.nD → PrngReg), Pre_ClampedIdeal m →
    θ_run (Cert.ClampedIdeal.defs (F := Ideal)) (Cert.ClampedIdeal.threads (F := Ideal)) ⟨m, fun _ => 0, g⟩ (fun r => (∀ c : Dev Cert.ClampedIdeal.nD,
      r.2.mem ((c.tc : Thread Cert.ClampedIdeal.nD Cert.ClampedIdeal.τ).loc Cert.ClampedIdeal.main_arg0) = m ((c.tc : Thread Cert.ClampedIdeal.nD Cert.ClampedIdeal.τ).loc Cert.ClampedIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_some_nonzero [hReferenceIdeal : Cert.ReferenceIdeal.Facts] [hPre_some_nonzero : Cert.Pre_some_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelIdeal [hKernelIdeal : Cert.KernelIdeal.Facts] [hPre_some_nonzero : Cert.Pre_some_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def preserves_Clamped_ClampedIdeal : Prop :=
  True

def algebraic_ClampedIdeal_ReferenceIdeal [hClampedIdeal : Cert.ClampedIdeal.Facts] [hReferenceIdeal : Cert.ReferenceIdeal.Facts] : Prop :=
  ∀ (m : (ℓ : Loc Cert.ClampedIdeal.nD Cert.ClampedIdeal.τ Cert.ClampedIdeal.sig) → Buf (Elt Ideal) ℓ) (g : Dev Cert.ClampedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ClampedIdeal m →
    (∀ c : Dev Cert.ClampedIdeal.nD,
      m' ((c.tc : Thread Cert.ReferenceIdeal.nD Cert.ReferenceIdeal.τ).loc Cert.ReferenceIdeal.main_arg0) = m ((c.tc : Thread Cert.ClampedIdeal.nD Cert.ClampedIdeal.τ).loc Cert.ClampedIdeal.main_arg0)) →
    ∃ (v0 : (c : Dev Cert.ClampedIdeal.nD) → Buf (Elt Ideal) ((c.tc : Thread Cert.ClampedIdeal.nD Cert.ClampedIdeal.τ).loc Cert.ClampedIdeal.main_v7)) (v1 : (c : Dev Cert.ClampedIdeal.nD) → Buf (Elt Ideal) ((c.tc : Thread Cert.ClampedIdeal.nD Cert.ClampedIdeal.τ).loc Cert.ClampedIdeal.main_v10)),
      θ_run (Cert.ClampedIdeal.defs (F := Ideal)) (Cert.ClampedIdeal.threads (F := Ideal)) ⟨m, fun _ => 0, g⟩ (fun r => ∀ c : Dev Cert.ClampedIdeal.nD,
          r.2.mem ((c.tc : Thread Cert.ClampedIdeal.nD Cert.ClampedIdeal.τ).loc Cert.ClampedIdeal.main_v7) = v0 c
          ∧ r.2.mem ((c.tc : Thread Cert.ClampedIdeal.nD Cert.ClampedIdeal.τ).loc Cert.ClampedIdeal.main_v10) = v1 c
          ∧ r.2.mem ((c.tc : Thread Cert.ClampedIdeal.nD Cert.ClampedIdeal.τ).loc Cert.ClampedIdeal.main_arg0) = m ((c.tc : Thread Cert.ClampedIdeal.nD Cert.ClampedIdeal.τ).loc Cert.ClampedIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ReferenceIdeal [hKernelIdeal : Cert.KernelIdeal.Facts] [hReferenceIdeal : Cert.ReferenceIdeal.Facts] [hPre_some_nonzero : Cert.Pre_some_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hClamped : Cert.Clamped.Facts) (hClampedIdeal : Cert.ClampedIdeal.Facts) (hReferenceIdeal : Cert.ReferenceIdeal.Facts) (hKernelIdeal : Cert.KernelIdeal.Facts) (hPre_some_nonzero : Cert.Pre_some_nonzero.Facts),
    quiescent_Clamped (hClamped := hClamped)
    ∧ quiescent_ClampedIdeal (hClampedIdeal := hClampedIdeal)
    ∧ quiescent_ReferenceIdeal (hReferenceIdeal := hReferenceIdeal)
    ∧ quiescent_ReferenceIdeal_pre_some_nonzero (hReferenceIdeal := hReferenceIdeal) (hPre_some_nonzero := hPre_some_nonzero)
    ∧ quiescent_KernelIdeal (hKernelIdeal := hKernelIdeal) (hPre_some_nonzero := hPre_some_nonzero)
    ∧ preserves_Clamped_ClampedIdeal
    ∧ algebraic_ClampedIdeal_ReferenceIdeal (hClampedIdeal := hClampedIdeal) (hReferenceIdeal := hReferenceIdeal)
    ∧ algebraic_KernelIdeal_ReferenceIdeal (hKernelIdeal := hKernelIdeal) (hReferenceIdeal := hReferenceIdeal) (hPre_some_nonzero := hPre_some_nonzero)
-- ==== Pre_some_nonzero.lean ====
abbrev S4x2048x4096 : Shape := ⟨3, ![4, 2048, 4096]⟩
abbrev S_ : Shape := ⟨0, ![]⟩

class Facts : Prop where
  reducesTo_S4x2048x4096_S_d0_1_2 : S4x2048x4096.ReducesTo [0, 1, 2] S_
  h_S_ : 0 < S_.numel

variable [Facts]

def fn {F : FTy → Type} [FloatOps F] (main_arg0 : FVec F S4x2048x4096 .f32) : IVec S_ 1 :=
  let main_v0 : FVec F S4x2048x4096 .f32 := Host.absf main_arg0
  let main_cst : FVec F S_ .f32 := constant S_ .f32 0xFF800000#32
  let main_v1 : FVec F S_ .f32 := (fun x v => Host.reduce FloatOps.maximumf x v reducesTo_S4x2048x4096_S_d0_1_2 h_S_) main_v0 main_cst
  let main_cst_0 : FVec F S_ .f32 := constant S_ .f32 0x00000000#32
  let main_v2 : IVec S_ 1 := cmpf .ogt main_v1 main_cst_0
  main_v2
-- ==== Clamped.lean ====
abbrev S4x2048x4096 : Shape := ⟨3, ![4, 2048, 4096]⟩
abbrev S8192x4096 : Shape := ⟨2, ![8192, 4096]⟩
abbrev S1x1 : Shape := ⟨2, ![1, 1]⟩
abbrev S512x4096 : Shape := ⟨2, ![512, 4096]⟩
abbrev S1x512x4096 : Shape := ⟨3, ![1, 512, 4096]⟩
abbrev S1 : Shape := ⟨1, ![1]⟩
abbrev S1x1x1 : Shape := ⟨3, ![1, 1, 1]⟩
abbrev S_ : Shape := ⟨0, ![]⟩
abbrev S33554432 : Shape := ⟨1, ![33554432]⟩
abbrev S16 : Shape := ⟨1, ![16]⟩
abbrev S32x2048 : Shape := ⟨2, ![32, 2048]⟩
abbrev S32768 : Shape := ⟨1, ![32768]⟩
abbrev S2048 : Shape := ⟨1, ![2048]⟩
abbrev S1x2048 : Shape := ⟨2, ![1, 2048]⟩
abbrev S2049 : Shape := ⟨1, ![2049]⟩

abbrev nBuf : Table → Nat
  | .hbm => 14
  | .local .tc .vmem => 2
  | .local .tc .smem => 1
  | .local .scVector .vmem => 4
  | _ => 0

abbrev bufTy : (tb : Table) → Fin (nBuf tb) → BufTy
  | .hbm, ⟨0, _⟩ => ⟨S4x2048x4096, .f32⟩
  | .hbm, ⟨1, _⟩ => ⟨S8192x4096, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S33554432, .f32⟩
  | .hbm, ⟨7, _⟩ => ⟨S16, .f32⟩
  | .hbm, ⟨8, _⟩ => ⟨S32x2048, .f32⟩
  | .hbm, ⟨9, _⟩ => ⟨S_, .f32⟩
  | .hbm, ⟨10, _⟩ => ⟨S2048, .f32⟩
  | .hbm, ⟨11, _⟩ => ⟨S2049, .f32⟩
  | .hbm, ⟨12, _⟩ => ⟨S2049, .f32⟩
  | .hbm, ⟨13, _⟩ => ⟨S2049, .f32⟩
  | .local .tc .vmem, ⟨0, _⟩ => ⟨S512x4096, .f32⟩
  | .local .tc .vmem, ⟨1, _⟩ => ⟨S512x4096, .f32⟩
  | .local .tc .smem, ⟨0, _⟩ => ⟨S1x1, .f32⟩
  | .local .scVector .vmem, ⟨0, _⟩ => ⟨S32768, .f32⟩
  | .local .scVector .vmem, ⟨1, _⟩ => ⟨S32768, .f32⟩
  | .local .scVector .vmem, ⟨2, _⟩ => ⟨S16, .f32⟩
  | .local .scVector .vmem, ⟨3, _⟩ => ⟨S2048, .f32⟩
  | _, _ => ⟨S4x2048x4096, .f32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v4_scv : Ref sig .scVector := ⟨.hbm, 6, rfl⟩
abbrev main_v5_scv : Ref sig .scVector := ⟨.hbm, 7, rfl⟩
abbrev main_v6_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_1 : BitVec 32 := 0#32
  let v9 : BitVec 1 := Scalar.cmpi .ne v8 c0_i32_1
  v9

def k0_cond2 (i : grid0.Coords) : BitVec 1 :=
  let arg0 : BitVec 32 := BitVec.ofNat 32 (i 0).val
  let c0_i32_2 : BitVec 32 := 0#32
  let v10 : BitVec 1 := Scalar.cmpi .ne arg0 c0_i32_2
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

@[reducible] def k1_t1_loop : Scf.Loop 32 :=
  let c0_i32_1 : BitVec 32 := 0#32
  let c2048_i32_2 : BitVec 32 := 2048#32
  let v11 : BitVec 32 := Scalar.addi c0_i32_1 c2048_i32_2
  let c1_i32 : BitVec 32 := 1#32
  ⟨c0_i32_1, v11, c1_i32⟩
def k1_off1 (k1_t1 : Fin k1_t1_loop.trips) : Fin 1 → Nat :=
  let c0_i32_1 : BitVec 32 := 0#32
  let c1_i32 : BitVec 32 := 1#32
  let arg9 : BitVec 32 := Scf.iv c0_i32_1 c1_i32 k1_t1
  let c16_i32_10 : BitVec 32 := 16#32
  let v14 : BitVec 32 := Scalar.muli arg9 c16_i32_10
  let v15 : Index := Scalar.indexCast v14
  ![v15.toNat]
@[reducible] def k1_t2_loop : Scf.Loop 32 :=
  let c0_i32_4 : BitVec 32 := 0#32
  let c32_i32 : BitVec 32 := 32#32
  let v12 : BitVec 32 := Scalar.addi c0_i32_4 c32_i32
  let c1_i32_5 : BitVec 32 := 1#32
  ⟨c0_i32_4, v12, c1_i32_5⟩
def k1_off2 (i : grid1.Coords) (k1_t2 : Fin k1_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1048576_i32 : BitVec 32 := 1048576#32
  let v2 : BitVec 32 := Scalar.muli v1 c1048576_i32
  let c0_i32_4 : BitVec 32 := 0#32
  let c1_i32_5 : BitVec 32 := 1#32
  let arg9 : BitVec 32 := Scf.iv c0_i32_4 c1_i32_5 k1_t2
  let c32768_i32 : BitVec 32 := 32768#32
  let v14 : BitVec 32 := Scalar.muli arg9 c32768_i32
  let v15 : BitVec 32 := Scalar.addi v2 v14
  ![v15.toNat]
@[reducible] def k1_t3_loop : Scf.Loop 32 :=
  let c0_i32_10 : BitVec 32 := 0#32
  let c2048_i32_11 : BitVec 32 := 2048#32
  let v16 : BitVec 32 := Scalar.addi c0_i32_10 c2048_i32_11
  let c1_i32_12 : BitVec 32 := 1#32
  ⟨c0_i32_10, v16, c1_i32_12⟩
def k1_off3 (k1_t3 : Fin k1_t3_loop.trips) : Fin 1 → Nat :=
  let c0_i32_10 : BitVec 32 := 0#32
  let c1_i32_12 : BitVec 32 := 1#32
  let arg10 : BitVec 32 := Scf.iv c0_i32_10 c1_i32_12 k1_t3
  let c16_i32_14 : BitVec 32 := 16#32
  let v17 : BitVec 32 := Scalar.muli arg10 c16_i32_14
  let v18 : Index := Scalar.indexCast v17
  ![v18.toNat]

def k1_chk1 (v25 : IVec S16 32) : Prop :=
  (∀ a x, ((![v25] : Fin 1 → IVec S16 32) a x).toNat < S32768.size a)
theorem k1_idx1_inb : ∀ (v25 : IVec S16 32) (k1_hw1 : k1_chk1 v25), ∀ a x, ((![v25] : Fin 1 → IVec S16 32) a x).toNat < S32768.size a := fun v25 k1_hw1 => k1_hw1
@[reducible] def k1_t4_loop : Scf.Loop 32 :=
  let c0_i32_7 : BitVec 32 := 0#32
  let c128_i32 : BitVec 32 := 128#32
  let v13 : BitVec 32 := Scalar.addi c0_i32_7 c128_i32
  let c1_i32_8 : BitVec 32 := 1#32
  ⟨c0_i32_7, v13, c1_i32_8⟩
def k1_off4 (k1_t4 : Fin k1_t4_loop.trips) : Fin 1 → Nat :=
  let c0_i32_7 : BitVec 32 := 0#32
  let c1_i32_8 : BitVec 32 := 1#32
  let arg9 : BitVec 32 := Scf.iv c0_i32_7 c1_i32_8 k1_t4
  let c16_i32_10 : BitVec 32 := 16#32
  let v14 : BitVec 32 := Scalar.muli arg9 c16_i32_10
  let v15 : Index := Scalar.indexCast v14
  ![v15.toNat]
def k1_off5 (k1_t4 : Fin k1_t4_loop.trips) (c2048_i32_12 : BitVec 32) : Fin 1 → Nat :=
  let c0_i32_7 : BitVec 32 := 0#32
  let c1_i32_8 : BitVec 32 := 1#32
  let arg9 : BitVec 32 := Scf.iv c0_i32_7 c1_i32_8 k1_t4
  let c16_i32_11 : BitVec 32 := 16#32
  let v17 : BitVec 32 := Scalar.muli arg9 c16_i32_11
  let v18 : BitVec 32 := Scalar.addi c2048_i32_12 v17
  let v19 : Index := Scalar.indexCast v18
  ![v19.toNat]
def k1_off6 (k1_t4 : Fin k1_t4_loop.trips) : Fin 1 → Nat :=
  let c0_i32_7 : BitVec 32 := 0#32
  let c1_i32_8 : BitVec 32 := 1#32
  let arg9 : BitVec 32 := Scf.iv c0_i32_7 c1_i32_8 k1_t4
  let c16_i32_27 : BitVec 32 := 16#32
  let v92 : BitVec 32 := Scalar.muli arg9 c16_i32_27
  let v93 : Index := Scalar.indexCast v92
  ![v93.toNat]
def k1_off7 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x4096 : Shape := ⟨3, ![4, 2048, 4096]⟩
abbrev S33554432 : Shape := ⟨1, ![33554432]⟩
abbrev S_ : Shape := ⟨0, ![]⟩
abbrev S2048 : Shape := ⟨1, ![2048]⟩
abbrev S33554432x1 : Shape := ⟨2, ![33554432, 1]⟩
abbrev S1 : Shape := ⟨1, ![1]⟩
abbrev S2049 : Shape := ⟨1, ![2049]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S33554432, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .i1⟩
  | .hbm, ⟨6, _⟩ => ⟨S33554432, .f32⟩
  | .hbm, ⟨7, _⟩ => ⟨S33554432, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S33554432, .f32⟩
  | .hbm, ⟨16, _⟩ => ⟨S33554432, .f32⟩
  | .hbm, ⟨17, _⟩ => ⟨S33554432, .f32⟩
  | .hbm, ⟨18, _⟩ => ⟨S33554432, .f32⟩
  | .hbm, ⟨19, _⟩ => ⟨S33554432, .f32⟩
  | .hbm, ⟨20, _⟩ => ⟨S33554432, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S33554432, .i32⟩
  | .hbm, ⟨25, _⟩ => ⟨S33554432, .i32⟩
  | .hbm, ⟨26, _⟩ => ⟨S_, .i32⟩
  | .hbm, ⟨27, _⟩ => ⟨S33554432, .i32⟩
  | .hbm, ⟨28, _⟩ => ⟨S33554432, .i32⟩
  | .hbm, ⟨29, _⟩ => ⟨S_, .f32⟩
  | .hbm, ⟨30, _⟩ => ⟨S2048, .f32⟩
  | .hbm, ⟨31, _⟩ => ⟨S_, .i32⟩
  | .hbm, ⟨32, _⟩ => ⟨S33554432, .i32⟩
  | .hbm, ⟨33, _⟩ => ⟨S33554432, .i1⟩
  | .hbm, ⟨34, _⟩ => ⟨S_, .i32⟩
  | .hbm, ⟨35, _⟩ => ⟨S33554432, .i32⟩
  | .hbm, ⟨36, _⟩ => ⟨S33554432, .i32⟩
  | .hbm, ⟨37, _⟩ => ⟨S33554432, .i32⟩
  | .hbm, ⟨38, _⟩ => ⟨S33554432x1, .i32⟩
  | .hbm, ⟨39, _⟩ => ⟨S_, .f32⟩
  | .hbm, ⟨40, _⟩ => ⟨S33554432, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S1, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S1, .f32⟩
  | .hbm, ⟨57, _⟩ => ⟨S2048, .f32⟩
  | .hbm, ⟨58, _⟩ => ⟨S2048, .f32⟩
  | .hbm, ⟨59, _⟩ => ⟨S2048, .f32⟩
  | .hbm, ⟨60, _⟩ => ⟨S1, .f32⟩
  | .hbm, ⟨61, _⟩ => ⟨S2049, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_c_5 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_c_7 : Ref sig .tc := ⟨.hbm, 31, rfl⟩
abbrev main_v16 : Ref sig .tc := ⟨.hbm, 32, rfl⟩
abbrev main_v17 : Ref sig .tc := ⟨.hbm, 33, rfl⟩
abbrev main_c_8 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_9 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_call2_v0 : Ref sig .tc := ⟨.hbm, 43, rfl⟩
abbrev main_call2_cst : Ref sig .tc := ⟨.hbm, 44, rfl⟩
abbrev main_call2_v1 : Ref sig .tc := ⟨.hbm, 45, rfl⟩
abbrev main_call2_v2 : Ref sig .tc := ⟨.hbm, 46, rfl⟩
abbrev main_call2_cst_0 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_cst_1 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_v24 : Ref sig .tc := ⟨.hbm, 61, rfl⟩

abbrev nD : Nat := 1
abbrev τ : Topo := Topo.v7x

variable {F : FTy → Type} [FloatOps F]
-- ==== KernelIdeal.lean ====
abbrev S4x2048x4096 : Shape := ⟨3, ![4, 2048, 4096]⟩
abbrev S8192x4096 : Shape := ⟨2, ![8192, 4096]⟩
abbrev S1x1 : Shape := ⟨2, ![1, 1]⟩
abbrev S512x4096 : Shape := ⟨2, ![512, 4096]⟩
abbrev S1x512x4096 : Shape := ⟨3, ![1, 512, 4096]⟩
abbrev S1 : Shape := ⟨1, ![1]⟩
abbrev S1x1x1 : Shape := ⟨3, ![1, 1, 1]⟩
abbrev S_ : Shape := ⟨0, ![]⟩
abbrev S33554432 : Shape := ⟨1, ![33554432]⟩
abbrev S16 : Shape := ⟨1, ![16]⟩
abbrev S32x2048 : Shape := ⟨2, ![32, 2048]⟩
abbrev S32768 : Shape := ⟨1, ![32768]⟩
abbrev S2048 : Shape := ⟨1, ![2048]⟩
abbrev S1x2048 : Shape := ⟨2, ![1, 2048]⟩
abbrev S2049 : Shape := ⟨1, ![2049]⟩

abbrev nBuf : Table → Nat
  | .hbm => 14
  | .local .tc .vmem => 2
  | .local .tc .smem => 1
  | .local .scVector .vmem => 4
  | _ => 0

abbrev bufTy : (tb : Table) → Fin (nBuf tb) → BufTy
  | .hbm, ⟨0, _⟩ => ⟨S4x2048x4096, .f32⟩
  | .hbm, ⟨1, _⟩ => ⟨S8192x4096, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S33554432, .f32⟩
  | .hbm, ⟨7, _⟩ => ⟨S16, .f32⟩
  | .hbm, ⟨8, _⟩ => ⟨S32x2048, .f32⟩
  | .hbm, ⟨9, _⟩ => ⟨S_, .f32⟩
  | .hbm, ⟨10, _⟩ => ⟨S2048, .f32⟩
  | .hbm, ⟨11, _⟩ => ⟨S2049, .f32⟩
  | .hbm, ⟨12, _⟩ => ⟨S2049, .f32⟩
  | .hbm, ⟨13, _⟩ => ⟨S2049, .f32⟩
  | .local .tc .vmem, ⟨0, _⟩ => ⟨S512x4096, .f32⟩
  | .local .tc .vmem, ⟨1, _⟩ => ⟨S512x4096, .f32⟩
  | .local .tc .smem, ⟨0, _⟩ => ⟨S1x1, .f32⟩
  | .local .scVector .vmem, ⟨0, _⟩ => ⟨S32768, .f32⟩
  | .local .scVector .vmem, ⟨1, _⟩ => ⟨S32768, .f32⟩
  | .local .scVector .vmem, ⟨2, _⟩ => ⟨S16, .f32⟩
  | .local .scVector .vmem, ⟨3, _⟩ => ⟨S2048, .f32⟩
  | _, _ => ⟨S4x2048x4096, .f32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => true
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v4_scv : Ref sig .scVector := ⟨.hbm, 6, rfl⟩
abbrev main_v5_scv : Ref sig .scVector := ⟨.hbm, 7, rfl⟩
abbrev main_v6_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_1 : BitVec 32 := 0#32
  let v9 : BitVec 1 := Scalar.cmpi .ne v8 c0_i32_1
  v9

def k0_cond2 (i : grid0.Coords) : BitVec 1 :=
  let arg0 : BitVec 32 := BitVec.ofNat 32 (i 0).val
  let c0_i32_2 : BitVec 32 := 0#32
  let v10 : BitVec 1 := Scalar.cmpi .ne arg0 c0_i32_2
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

@[reducible] def k1_t1_loop : Scf.Loop 32 :=
  let c0_i32 : BitVec 32 := 0#32
  let c2048_i32_1 : BitVec 32 := 2048#32
  let v10 : BitVec 32 := Scalar.addi c0_i32 c2048_i32_1
  let c1_i32 : BitVec 32 := 1#32
  ⟨c0_i32, v10, c1_i32⟩
def k1_off1 (k1_t1 : Fin k1_t1_loop.trips) : Fin 1 → Nat :=
  let c0_i32 : BitVec 32 := 0#32
  let c1_i32 : BitVec 32 := 1#32
  let arg9 : BitVec 32 := Scf.iv c0_i32 c1_i32 k1_t1
  let c16_i32_9 : BitVec 32 := 16#32
  let v13 : BitVec 32 := Scalar.muli arg9 c16_i32_9
  let v14 : Index := Scalar.indexCast v13
  ![v14.toNat]
@[reducible] def k1_t2_loop : Scf.Loop 32 :=
  let c0_i32_3 : BitVec 32 := 0#32
  let c32_i32 : BitVec 32 := 32#32
  let v11 : BitVec 32 := Scalar.addi c0_i32_3 c32_i32
  let c1_i32_4 : BitVec 32 := 1#32
  ⟨c0_i32_3, v11, c1_i32_4⟩
def k1_off2 (i : grid1.Coords) (k1_t2 : Fin k1_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1048576_i32 : BitVec 32 := 1048576#32
  let v2 : BitVec 32 := Scalar.muli v1 c1048576_i32
  let c0_i32_3 : BitVec 32 := 0#32
  let c1_i32_4 : BitVec 32 := 1#32
  let arg9 : BitVec 32 := Scf.iv c0_i32_3 c1_i32_4 k1_t2
  let c32768_i32 : BitVec 32 := 32768#32
  let v13 : BitVec 32 := Scalar.muli arg9 c32768_i32
  let v14 : BitVec 32 := Scalar.addi v2 v13
  ![v14.toNat]
@[reducible] def k1_t3_loop : Scf.Loop 32 :=
  let c0_i32_9 : BitVec 32 := 0#32
  let c2048_i32_10 : BitVec 32 := 2048#32
  let v15 : BitVec 32 := Scalar.addi c0_i32_9 c2048_i32_10
  let c1_i32_11 : BitVec 32 := 1#32
  ⟨c0_i32_9, v15, c1_i32_11⟩
def k1_off3 (k1_t3 : Fin k1_t3_loop.trips) : Fin 1 → Nat :=
  let c0_i32_9 : BitVec 32 := 0#32
  let c1_i32_11 : BitVec 32 := 1#32
  let arg10 : BitVec 32 := Scf.iv c0_i32_9 c1_i32_11 k1_t3
  let c16_i32_13 : BitVec 32 := 16#32
  let v16 : BitVec 32 := Scalar.muli arg10 c16_i32_13
  let v17 : Index := Scalar.indexCast v16
  ![v17.toNat]

def k1_chk1 (v23 : IVec S16 32) : Prop :=
  (∀ a x, ((![v23] : Fin 1 → IVec S16 32) a x).toNat < S32768.size a)
theorem k1_idx1_inb : ∀ (v23 : IVec S16 32) (k1_hw1 : k1_chk1 v23), ∀ a x, ((![v23] : Fin 1 → IVec S16 32) a x).toNat < S32768.size a := fun v23 k1_hw1 => k1_hw1
@[reducible] def k1_t4_loop : Scf.Loop 32 :=
  let c0_i32_6 : BitVec 32 := 0#32
  let c128_i32 : BitVec 32 := 128#32
  let v12 : BitVec 32 := Scalar.addi c0_i32_6 c128_i32
  let c1_i32_7 : BitVec 32 := 1#32
  ⟨c0_i32_6, v12, c1_i32_7⟩
def k1_off4 (k1_t4 : Fin k1_t4_loop.trips) : Fin 1 → Nat :=
  let c0_i32_6 : BitVec 32 := 0#32
  let c1_i32_7 : BitVec 32 := 1#32
  let arg9 : BitVec 32 := Scf.iv c0_i32_6 c1_i32_7 k1_t4
  let c16_i32_9 : BitVec 32 := 16#32
  let v13 : BitVec 32 := Scalar.muli arg9 c16_i32_9
  let v14 : Index := Scalar.indexCast v13
  ![v14.toNat]
def k1_off5 (k1_t4 : Fin k1_t4_loop.trips) (c2048_i32_11 : BitVec 32) : Fin 1 → Nat :=
  let c0_i32_6 : BitVec 32 := 0#32
  let c1_i32_7 : BitVec 32 := 1#32
  let arg9 : BitVec 32 := Scf.iv c0_i32_6 c1_i32_7 k1_t4
  let c16_i32_10 : BitVec 32 := 16#32
  let v16 : BitVec 32 := Scalar.muli arg9 c16_i32_10
  let v17 : BitVec 32 := Scalar.addi c2048_i32_11 v16
  let v18 : Index := Scalar.indexCast v17
  ![v18.toNat]
def k1_off6 (k1_t4 : Fin k1_t4_loop.trips) : Fin 1 → Nat :=
  let c0_i32_6 : BitVec 32 := 0#32
  let c1_i32_7 : BitVec 32 := 1#32
  let arg9 : BitVec 32 := Scf.iv c0_i32_6 c1_i32_7 k1_t4
  let c16_i32_26 : BitVec 32 := 16#32
  let v91 : BitVec 32 := Scalar.muli arg9 c16_i32_26
  let v92 : Index := Scalar.indexCast v91
  ![v92.toNat]
def k1_off7 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_9_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Bins.lean ====
/-
  The arithmetic of one histogram that no program's text enters: the bin of a value, a scattered addition of ones read at one counter,
  the sums that turn counters of lanes and tasks into one count, and the largest absolute value.
-/
module

public import Idealize.ShloMosaic.PureOps.Ideal
public import Idealize.ShloMosaic.PureOps.Ideal.Laws
public import Idealize.ShloMosaic.PureOps.Reduce
public import Idealize.ShloMosaic.Lib.IdealHost

@[expose] public section

noncomputable section

namespace Cert.Bins

open Idealize.ShloMosaic

/-! ## Words -/

/-- The signed clamp of a word between 0 and 2047. -/
def clampW (q : BitVec 32) : BitVec 32 := IntOp.minsi (IntOp.maxsi q 0#32) 2047#32

/-- The clamp read as an integer. -/
theorem clampW_toInt (q : BitVec 32) : (clampW q).toInt = min (max q.toInt 0) 2047 := by
  unfold clampW IntOp.minsi IntOp.maxsi
  have h0 : (0#32 : BitVec 32).toInt = 0 := rfl
  have h1 : (2047#32 : BitVec 32).toInt = 2047 := rfl
  simp only [BitVec.slt_iff_toInt_lt]
  split_ifs with a b b <;> simp only [h0, h1] at * <;> omega

/-- A clamped word names one of the 2048 bins. -/
theorem clampW_lt (q : BitVec 32) : (clampW q).toNat < 2048 := by
  have h := clampW_toInt q
  rw [BitVec.toInt_eq_toNat_cond] at h
  have := (clampW q).isLt
  split_ifs at h <;> omega

/-- The host's clamp, its operands in the other order, is the same word. -/
theorem clampW_host (q : BitVec 32) : IntOp.minsi 2047#32 (IntOp.maxsi 0#32 q) = clampW q := by
  apply BitVec.eq_of_toInt_eq
  rw [clampW_toInt]
  unfold IntOp.minsi IntOp.maxsi
  have h0 : (0#32 : BitVec 32).toInt = 0 := rfl
  have h1 : (2047#32 : BitVec 32).toInt = 2047 := rfl
  simp only [BitVec.slt_iff_toInt_lt]
  split_ifs with a b b <;> simp only [h0, h1] at * <;> omega

/-- On a word that is not negative the upper clamp alone is the clamp. -/
theorem clampW_of_nonneg (q : BitVec 32) (h : 0 ≤ q.toInt) : IntOp.minsi q 2047#32 = clampW q := by
  apply BitVec.eq_of_toInt_eq
  rw [clampW_toInt]
  unfold IntOp.minsi
  have h1 : (2047#32 : BitVec 32).toInt = 2047 := rfl
  simp only [BitVec.slt_iff_toInt_lt]
  split_ifs with a <;> simp only [h1] at * <;> omega

/-- The index a lane forms from its number and a clamped word, as a natural number. -/
theorem lane_index (l : ℕ) (hl : l < 16) (q : BitVec 32) :
    (IntOp.addi (IntOp.muli (BitVec.ofNat 32 l) 2048#32) (clampW q)).toNat = 2048 * l + (clampW q).toNat := by
  have := clampW_lt q
  unfold IntOp.addi IntOp.muli
  rw [BitVec.toNat_add, BitVec.toNat_mul, BitVec.toNat_ofNat, BitVec.toNat_ofNat]
  omega

/-! ## Constants -/

/-- The pattern of minus infinity. -/
theorem ofBits_bot : Ideal.ofBits .f32 0xFF800000#32 = ⊥ := by simp [Ideal.ofBits, Ideal.ieee]

/-- The pattern of plus infinity. -/
theorem ofBits_top : Ideal.ofBits .f32 0x7F800000#32 = ⊤ := by simp [Ideal.ofBits, Ideal.ieee]

/-- The pattern of 2048. -/
theorem ofBits_2048 : Ideal.ofBits .f32 0x45000000#32 = ((2048 : ℝ) : EReal) := by
  simp [Ideal.ofBits, Ideal.ieee]
  rw [← EReal.coe_mul]
  norm_num

/-! ## The bin of a value -/

/-- The bin of the value `a` at the bin width `w`: the quotient's integer part, clamped. -/
def binOf (w a : EReal) : ℕ := (clampW (Ideal.fptosi 32 (Ideal.div (max a (-a)) w))).toNat

/-- A bin is one of the 2048. -/
theorem binOf_lt (w a : EReal) : binOf w a < 2048 := clampW_lt _

/-- The conversion to a word, read as an integer. -/
theorem fptosi_toInt (x : EReal) : (Ideal.fptosi 32 x).toInt = Ideal.toIntClamped (-2147483648) 2147483647 x := by
  have hb : ∀ x : EReal, -2147483648 ≤ Ideal.toIntClamped (-2147483648) 2147483647 x
      ∧ Ideal.toIntClamped (-2147483648) 2147483647 x ≤ 2147483647 := by
    intro x
    induction x using EReal.rec with
    | bot => exact ⟨le_refl _, by show (-2147483648 : ℤ) ≤ _; norm_num⟩
    | top => exact ⟨by show (-2147483648 : ℤ) ≤ 2147483647; norm_num, le_refl _⟩
    | coe r => exact ⟨le_max_left _ _, max_le (by norm_num) (min_le_left _ _)⟩
  have h := hb x
  unfold Ideal.fptosi
  have e1 : (-(2 ^ (32 - 1) : ℕ) : ℤ) = -2147483648 := by norm_num
  have e2 : ((2 ^ (32 - 1) : ℕ) : ℤ) - 1 = 2147483647 := by norm_num
  rw [e1, e2, BitVec.toInt_ofInt, Int.bmod_eq_of_le] <;> norm_num <;> omega

/-- Rounding down first does not change the clamped word: below zero both conversions clamp to zero. -/
theorem clampW_floor (q : EReal) : clampW (Ideal.fptosi 32 (Ideal.liftRound Int.floor q)) = clampW (Ideal.fptosi 32 q) := by
  apply BitVec.eq_of_toInt_eq
  rw [clampW_toInt, clampW_toInt, fptosi_toInt, fptosi_toInt]
  induction q using EReal.rec with
  | bot => rfl
  | top => rfl
  | coe r =>
    show min (max (max _ (min _ (if (0:ℝ) ≤ ((⌊r⌋ : ℤ) : ℝ) then ⌊((⌊r⌋ : ℤ) : ℝ)⌋ else ⌈((⌊r⌋ : ℤ) : ℝ)⌉))) 0) 2047
      = min (max (max _ (min _ (if (0:ℝ) ≤ r then ⌊r⌋ else ⌈r⌉))) 0) 2047
    rw [Int.floor_intCast, Int.ceil_intCast, ite_self]
    by_cases h : 0 ≤ r
    · rw [if_pos h]
    · rw [if_neg h]
      have h1 : ⌊r⌋ < 0 := Int.floor_lt.2 (by push_cast; linarith)
      have h2 : ⌈r⌉ ≤ 0 := Int.ceil_le.2 (by push_cast; linarith)
      omega

/-- A value that is not negative converts to a word that is not negative. -/
theorem fptosi_nonneg {q : EReal} (h : 0 ≤ q) : 0 ≤ (Ideal.fptosi 32 q).toInt := by
  rw [fptosi_toInt]
  induction q using EReal.rec with
  | bot => exact absurd h (by simp)
  | top => show (0 : ℤ) ≤ 2147483647; norm_num
  | coe r =>
    have hr : 0 ≤ r := by exact_mod_cast h
    show 0 ≤ max _ (min _ (if (0:ℝ) ≤ r then ⌊r⌋ else ⌈r⌉))
    rw [if_pos hr]
    have := Int.floor_nonneg.2 hr
    omega

/-- An absolute value over a positive width is not negative. -/
theorem div_abs_nonneg (a : EReal) {w : EReal} (hw : 0 < w) : 0 ≤ Ideal.div (max a (-a)) w := by
  unfold Ideal.div
  rw [if_neg hw.ne']
  have ha : 0 ≤ max a (-a) := by
    rcases le_total 0 a with h | h
    · exact le_max_of_le_left h
    · exact le_max_of_le_right (EReal.neg_nonneg.2 h)
  exact mul_nonneg ha (EReal.inv_nonneg_of_nonneg hw.le)

/-! ## A scattered addition of ones, read at one counter -/

/-- A scattered addition under the full mask, read at the counter `j`: the old value and one for each lane whose index is `j`. -/
theorem storeIdx_add {e d : Fin 1 → ℕ} (g : Vec Ideal ⟨1, e⟩ .f32) (idx : IVec ⟨1, d⟩ 32) (v : Vec Ideal ⟨1, d⟩ .f32) (hv : ∀ x, v x = (1 : EReal))
    (h : ∀ a x, ((![idx] : Fin 1 → IVec ⟨1, d⟩ 32) a x).toNat < (⟨1, e⟩ : Shape).size a) (j : (⟨1, e⟩ : Shape).Idx) :
    (storeIdx g ![idx] v (fun _ => 1#1) true h j : EReal)
      = g j + ∑ l : Fin (d 0), if (j 0).val = (idx (Shape.ofLane l)).toNat then (1 : EReal) else 0 := by
  unfold storeIdx
  have key : ∀ (L : List (Fin (d 0))) (g : Vec Ideal ⟨1, e⟩ .f32),
      ((L.foldl (fun g k =>
        let x := Shape.ofLane k
        if (fun _ : (⟨1, d⟩ : Shape).Idx => 1#1) x = 1 then
          let i := idxAt ![idx] h x
          let y := if true then Elt.idxAdd (F := Ideal) .f32 (g i) (v x) else v x
          fun j => if (∀ a, (j a).val = (i a).val) then y else g j
        else g) g : Vec Ideal ⟨1, e⟩ .f32) j : EReal)
      = g j + (L.map fun l => if (j 0).val = (idx (Shape.ofLane l)).toNat then (1 : EReal) else 0).sum := by
    intro L
    induction L with
    | nil => intro g; simp
    | cons k L ih =>
      intro g
      rw [List.foldl_cons, ih, List.map_cons, List.sum_cons]
      rw [← add_assoc]
      congr 1
      simp only [if_true]
      have hiff : (∀ a, (j a).val = ((idxAt ![idx] h (Shape.ofLane k)) a).val)
          ↔ (j 0).val = (idx (Shape.ofLane k)).toNat :=
        ⟨fun H => H 0, fun H a => by
          have ha : a = 0 := Subsingleton.elim (α := Fin 1) a 0
          subst ha; exact H⟩
      by_cases c : (j 0).val = (idx (Shape.ofLane k)).toNat
      · rw [if_pos c]
        refine (if_pos (hiff.2 c)).trans ?_
        have : idxAt ![idx] h (Shape.ofLane k) = j := funext fun a => Fin.ext ((hiff.2 c a).symm)
        rw [this]
        show (g j : EReal) + v _ = g j + 1
        rw [hv]
      · rw [if_neg c, add_zero]
        exact if_neg (fun H => c (hiff.1 H))
  refine (key (List.finRange (d 0)) g).trans ?_
  congr 1

/-! ## Sums -/

/-- A sum over consecutive groups of `b` is the sum over them all. -/
theorem sum_groups {M : Type*} [AddCommMonoid M] (f : ℕ → M) (b : ℕ) (a : ℕ) :
    (∑ n ∈ Finset.range a, ∑ l ∈ Finset.range b, f (b * n + l)) = ∑ p ∈ Finset.range (b * a), f p := by
  induction a with
  | zero => simp
  | succ a ih => rw [Finset.sum_range_succ, ih, Nat.mul_succ, Finset.sum_range_add]

/-- The counters of sixteen lanes for one bin hold together one for each lane whose value falls in that bin. -/
theorem sum_lanes (c : ℕ) (hc : c < 2048) (bin : ℕ → ℕ) (hb : ∀ l, bin l < 2048) :
    (∑ r ∈ Finset.range 16, ∑ l ∈ Finset.range 16, if 2048 * r + c = 2048 * l + bin l then (1 : EReal) else 0)
      = ∑ l ∈ Finset.range 16, if bin l = c then (1 : EReal) else 0 := by
  rw [Finset.sum_comm]
  refine Finset.sum_congr rfl fun l hl => ?_
  have := hb l
  rw [Finset.sum_eq_single l]
  · refine if_congr ?_ rfl rfl; omega
  · intro r _ hr
    rw [if_neg (by omega)]
  · exact fun h => absurd hl h

/-! ## Reductions by maximum and minimum -/

/-- A reshape holds the same elements, so what holds of all of its elements holds of all of its operand's. -/
theorem shapeCast_forall {α : Type} {s t : Shape} (x : s.Idx → α) (h : s.ShapeCasts t) (p : α → Prop) :
    (∀ i, p (shapeCast t x h i)) ↔ ∀ j, p (x j) := by
  constructor
  · intro H j
    have := H ((Shape.reshapeEquiv h).symm j)
    unfold shapeCast at this
    rwa [Equiv.apply_symm_apply] at this
  · exact fun H i => H _

/-- A maximum over a whole vector lies below a bound exactly when every element does. -/
theorem multi_le {s t : Shape} {axes : List (Fin s.rank)} [Subsingleton t.Idx] (src : FVec Ideal s .f32) (h : s.Reduces axes t) (hφ : FKind.Formats .f32)
    (hacc : (0xFF800000#32 : BitVec FTy.f32.bits) = FKind.maximumf.neutral .f32 hφ) (j : t.Idx) (z : EReal) :
    (multiReduction .maximumf axes t src 0xFF800000#32 h hφ hacc j : EReal) ≤ z ↔ ∀ i, (src i : EReal) ≤ z := by
  rw [multiReduction_maximumf_eq_fold, Finset.filter_true_of_mem fun i _ => Subsingleton.elim _ _]
  refine (Finset.fold_max_le (β := EReal) z).trans ?_
  constructor
  · exact fun H i => H.2 i (Finset.mem_univ i)
  · intro H
    refine ⟨?_, fun i _ => H i⟩
    rw [show (FloatOps.ofBits (F := Ideal) .f32 0xFF800000#32 : EReal) = ⊥ from ofBits_bot]
    exact bot_le

/-- The same of the absolute values of a vector, reshaped before and after. -/
theorem multi_abs_le {r s s' t : Shape} {axes : List (Fin s.rank)} [Subsingleton t.Idx] (v : FVec Ideal r .f32) (h1 : r.ShapeCasts s')
    (h2 : s'.ShapeCasts s) (h : s.Reduces axes t) (hφ : FKind.Formats .f32)
    (hacc : (0xFF800000#32 : BitVec FTy.f32.bits) = FKind.maximumf.neutral .f32 hφ) (j : t.Idx) (z : EReal) :
    (multiReduction .maximumf axes t (shapeCast s (absf (shapeCast s' v h1)) h2) 0xFF800000#32 h hφ hacc j : EReal) ≤ z
      ↔ ∀ i, max (v i : EReal) (-(v i)) ≤ z := by
  refine (multi_le _ h hφ hacc j z).trans ?_
  refine (shapeCast_forall (absf (shapeCast s' v h1)) h2 (fun y : EReal => y ≤ z)).trans ?_
  exact shapeCast_forall v h1 (fun y : EReal => max y (-y) ≤ z)

/-- A vector with one element, reshaped and read, is read at some index. -/
theorem extract_one {s t : Shape} (x : FVec Ideal s .f32) (h : s.ShapeCasts t) (pos : Fin t.rank → ℕ) (hp : ∀ a, pos a < t.size a) (z : EReal)
    (p : Prop) (H : ∀ j, (x j : EReal) ≤ z ↔ p) : ((extractAt pos (shapeCast t x h) hp : Ideal .f32) : EReal) ≤ z ↔ p :=
  H _

/-- The host's maximum over a whole vector lies below a bound exactly when every element does. -/
theorem hostMax_le {s t u : Shape} {axes : List (Fin s.rank)} [Subsingleton t.Idx] (src : FVec Ideal s .f32) (init : FVec Ideal u .f32)
    (h : s.ReducesTo axes t) (hu : 0 < u.numel) (hi : ∀ k, (init k : EReal) = ⊥) (j : t.Idx) (z : EReal) :
    (Host.reduce (FloatOps.maximumf (F := Ideal) (φ := .f32)) src init h hu j : EReal) ≤ z ↔ ∀ i, (src i : EReal) ≤ z := by
  rw [Host.reduce_eq_fold, Finset.filter_true_of_mem fun i _ => Subsingleton.elim _ _]
  refine (Finset.fold_max_le (β := EReal) z).trans ?_
  constructor
  · exact fun H i => H.2 i (Finset.mem_univ i)
  · intro H
    refine ⟨?_, fun i _ => H i⟩
    rw [hi]
    exact bot_le

/-- The host's minimum over a whole vector lies above a bound exactly when every element does. -/
theorem le_hostMin {s t u : Shape} {axes : List (Fin s.rank)} [Subsingleton t.Idx] (src : FVec Ideal s .f32) (init : FVec Ideal u .f32)
    (h : s.ReducesTo axes t) (hu : 0 < u.numel) (hi : ∀ k, (init k : EReal) = ⊤) (j : t.Idx) (z : EReal) :
    z ≤ (Host.reduce (FloatOps.minimumf (F := Ideal) (φ := .f32)) src init h hu j : EReal) ↔ ∀ i, z ≤ (src i : EReal) := by
  rw [Host.reduce_eq_fold, Finset.filter_true_of_mem fun i _ => Subsingleton.elim _ _]
  refine (Finset.le_fold_min (β := EReal) z).trans ?_
  constructor
  · exact fun H i => H.2 i (Finset.mem_univ i)
  · intro H
    refine ⟨?_, fun i _ => H i⟩
    rw [hi]
    exact le_top

end Cert.Bins

end
-- ==== Proof.ClampedIdealTile.lean ====
/-
  One SparseCore tile's task of the kernel: its histogram in lane-private rows, folded into one row of partial counts.

  The task on (SparseCore `c`, tile `s`) copies the bin width (sixteen equal words), clears its 16 x 2048 private counters,
  streams its 1048576 consecutive elements in 32 chunks of 32768, adds one to a counter per element (sixteen elements at a time,
  lane `r` counting in private row `r`), adds the sixteen private rows from the left, and writes the 2048 sums to row `16 c + s`
  of the result. `tile_body` runs the task ONCE at a symbolic (`c`, `s`) and states what that row holds.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import Idealize.ShloMosaic.Lib.WritesUnit
public import proofs.«01_k».proof.Proof.Gen.ClampedIdeal
public import proofs.«01_k».proof.Proof.Gen.ClampedIdeal.Skeleton

@[expose] public section

noncomputable section

namespace Cert.ClampedIdeal.Own

open Cert.ClampedIdeal Cert.ClampedIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- The call runs on sixteen subcores -/
theorem nSub_zero : (K (F := F)).nSub 0 = 16 := rfl
/-- of each of two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and unscoped, and no buffer is shared between a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

/-- The flat input, the bin width's sixteen words and the partial counts, as locations of device `d`. -/
abbrev xLoc (d : Dev nD) : Loc nD τ sig := (SparseCore.T d).loc main_v4
abbrev wLoc (d : Dev nD) : Loc nD τ sig := (SparseCore.T d).loc main_v5
abbrev oLoc (d : Dev nD) : Loc nD τ sig := (SparseCore.T d).loc main_v6

local notation "xV" => (Memref.whole Cert.ClampedIdeal.main_v4_scv : Memref Cert.ClampedIdeal.sig Kind.scVector Space.hbm Cert.ClampedIdeal.S33554432 EltTy.f32)
local notation "wV" => (Memref.whole Cert.ClampedIdeal.main_v5_scv : Memref Cert.ClampedIdeal.sig Kind.scVector Space.hbm Cert.ClampedIdeal.S16 EltTy.f32)
local notation "oV" => (Memref.whole Cert.ClampedIdeal.main_v6_scv : Memref Cert.ClampedIdeal.sig Kind.scVector Space.hbm Cert.ClampedIdeal.S32x2048 EltTy.f32)
local notation "sH" => (Memref.whole Cert.ClampedIdeal.cc1_scratch0 : Memref Cert.ClampedIdeal.sig Kind.scVector Space.vmem Cert.ClampedIdeal.S32768 EltTy.f32)
local notation "sB" => (Memref.whole Cert.ClampedIdeal.cc1_scratch1 : Memref Cert.ClampedIdeal.sig Kind.scVector Space.vmem Cert.ClampedIdeal.S32768 EltTy.f32)
local notation "sW" => (Memref.whole Cert.ClampedIdeal.cc1_scratch2 : Memref Cert.ClampedIdeal.sig Kind.scVector Space.vmem Cert.ClampedIdeal.S16 EltTy.f32)
local notation "sR" => (Memref.whole Cert.ClampedIdeal.cc1_scratch3 : Memref Cert.ClampedIdeal.sig Kind.scVector Space.vmem Cert.ClampedIdeal.S2048 EltTy.f32)

/-- The partial counts divide into 32 rows. -/
theorem hdiv : 32 ∣ S32x2048.size 0 := ⟨1, rfl⟩
/-- Row `t` of the partial counts: task `t`'s. -/
abbrev row (t : Fin 32) : Rect S32x2048 := Rect.part (s := S32x2048) (a₀ := 0) hdiv t
abbrev rowSet (t : Fin 32) : Finset S32x2048.Idx := ((oV).view.slice (row t)).set

variable [FloatOps F]

/-! ## What a task computes -/

section Value

variable (X : Vec F S33554432 .f32) (W : Vec F S16 .f32)

/-- Element `n` of the flat input (`n` below its length). -/
def at1 (n : ℕ) : F .f32 := X (Shape.ofLane (⟨n % 33554432, Nat.mod_lt _ (by norm_num)⟩ : Fin 33554432))

/-- Sixteen consecutive elements of the flat input from `b` on. -/
def lanes (b : ℕ) : Vec F S16 .f32 := fun x => at1 X (b + (x 0).val)

/-- One counting step: every lane adds one to the counter its element's bin names in the lane's own row. (The counters stay where an
    index would name no counter.) -/
def histStep (g : Vec F S32768 .f32) (v : Vec F S16 .f32) : Vec F S32768 .f32 :=
  if h : k1_chk1 (k1_pay3 W v) then storeIdx g ![k1_pay3 W v] (k1_pay1 (F := F)) (fun _ => 1#1) true (k1_idx1_inb _ h) else g

/-- The counters after `n` steps of the task whose elements start at `b`. -/
def histN (b : ℕ) : ℕ → Vec F S32768 .f32
  | 0 => fun _ => Scalar.ofBits .f32 0x00000000#32
  | n + 1 => histStep W (histN b n) (lanes X (b + 16 * n))

/-- Counter `n` of the private rows. -/
def at2 (g : Vec F S32768 .f32) (n : ℕ) : F .f32 := g (Shape.ofLane (⟨n % 32768, Nat.mod_lt _ (by norm_num)⟩ : Fin 32768))

/-- The sum of the first `r + 1` private rows at bin `b`, from the left. -/
def laneSum (g : Vec F S32768 .f32) : ℕ → ℕ → F .f32
  | 0, b => at2 g b
  | r + 1, b => FloatOps.addf (laneSum g r b) (at2 g (2048 * r + b + 2048))

/-- What task `t` leaves at bin `b`. -/
def partial1 (t b : ℕ) : F .f32 := laneSum (histN X W (1048576 * t) 65536) 15 b

/-- The partial counts of all the tasks. -/
def OUT : Vec F S32x2048 .f32 := fun i => partial1 X W (i 0).val (i 1).val

end Value

/-! ## What the handshakes carry -/

section Pay

variable (X : Dev nD → Vec F S33554432 .f32) (W : Dev nD → Vec F S16 .f32) (m : (ℓ : Loc nD τ sig) → Buf (Elt F) ℓ)

/-- The number of the task on (SparseCore `c`, tile `s`). -/
def tileNo (c : Fin 2) (s : Fin 16) : Fin 32 := ⟨16 * c.val + s.val, by omega⟩

/-- Task `t`'s read share of an array all the tasks read. -/
abbrev rq (t : Fin 32) : PosShare TreeShare := Transfers.dealOf fullShare (Finset.univ : Finset (Fin 32)) t

/-- What task `t` is handed: its read shares of the input and of the bin width, and its row of the partial counts. -/
def inPts (d : Dev nD) (t : Fin 32) : sProp 𝕄 :=
  iprop((xLoc d ↦{rq t} X d) ∗ (wLoc d ↦{rq t} W d) ∗ (oLoc d ↦[rowSet t]{fullShare} m (oLoc d)))
/-- What it hands back: the shares, and its row at the counts it computed. -/
def outPts (d : Dev nD) (t : Fin 32) : sProp 𝕄 :=
  iprop((xLoc d ↦{rq t} X d) ∗ (wLoc d ↦{rq t} W d) ∗ (oLoc d ↦[rowSet t]{fullShare} OUT (X d) (W d)))

instance inPts_storable (d : Dev nD) (t : Fin 32) : BI.Storable (upEmb : UEmb _ 𝕄) (inPts X W m d t) := by
  unfold inPts; infer_instance
instance outPts_storable (d : Dev nD) (t : Fin 32) : BI.Storable (upEmb : UEmb _ 𝕄) (outPts X W d t) := by
  unfold outPts; infer_instance

/-- The one call hands each SparseCore what its sixteen tasks are handed and takes back what they hand back. -/
def P : (K (F := F)).Pay (nD := nD) (Val := Elt F) (Name := ℕ) (U := UU) where
  st := fun q d c => match q with
    | 0 => bigSep Finset.univ fun i : Fin ((K (F := F)).nSub 0) => inPts X W m d (tileNo (Fin.cast nCore_zero c) (Fin.cast nSub_zero i))
  dn := fun q d c => match q with
    | 0 => bigSep Finset.univ fun i : Fin ((K (F := F)).nSub 0) => outPts X W d (tileNo (Fin.cast nCore_zero c) (Fin.cast nSub_zero i))
  go := fun q d c i => match q with | 0 => inPts X W m d (tileNo (Fin.cast nCore_zero c) (Fin.cast nSub_zero i))
  td := fun q d c i => match q with | 0 => outPts X W d (tileNo (Fin.cast nCore_zero c) (Fin.cast nSub_zero i))
  x := fun _ _ => iprop(emp)

instance P_storable : (P X W m).IsStorable where
  st q d c := match q with
    | 0 => (inferInstance : BI.Storable (upEmb : UEmb _ 𝕄)
        (bigSep Finset.univ fun i : Fin ((K (F := F)).nSub 0) => inPts X W m d (tileNo (Fin.cast nCore_zero c) (Fin.cast nSub_zero i))))
  dn q d c := match q with
    | 0 => (inferInstance : BI.Storable (upEmb : UEmb _ 𝕄)
        (bigSep Finset.univ fun i : Fin ((K (F := F)).nSub 0) => outPts X W d (tileNo (Fin.cast nCore_zero c) (Fin.cast nSub_zero i))))
  go q d c i := match q with
    | 0 => (inferInstance : BI.Storable (upEmb : UEmb _ 𝕄) (inPts X W m d (tileNo (Fin.cast nCore_zero c) (Fin.cast nSub_zero i))))
  td q d c i := match q with
    | 0 => (inferInstance : BI.Storable (upEmb : UEmb _ 𝕄) (outPts X W d (tileNo (Fin.cast nCore_zero c) (Fin.cast nSub_zero i))))

end Pay

/-! ## The task -/

section Tile

variable (d : Dev nD) (L : grid1.Coords)

abbrev cV (L : grid1.Coords) : Fin τ.nSC := (L 0).castLE hcore1
abbrev jV (L : grid1.Coords) : Fin τ.nSub := (L 1).castLE hsub1
omit [FloatOps F] in
/-- The first coordinate of a task is its SparseCore, one of two. -/
theorem bound_zero : grid1.bound 0 = 2 := rfl
omit [FloatOps F] in
/-- The second is its subcore, one of sixteen. -/
theorem bound_one : grid1.bound 1 = 16 := rfl
abbrev tL (L : grid1.Coords) : Fin 32 := tileNo (Fin.cast bound_zero (L 0)) (Fin.cast bound_one (L 1))

abbrev rowK (L : grid1.Coords) : Rect S32x2048 := Rect.unit (s := S32x2048) (k1_off7 L) S1x2048.size (k1_off7_inb L)
abbrev oRowK (L : grid1.Coords) : Memref sig .scVector .hbm S2048 .f32 := ((oV).slice (rowK L) (fun _ => rfl)).squeeze S2048 squeezes_S1x2048_S2048

omit [FloatOps F] in
/-- The row that the body names is the task's. -/
theorem rowK_eq : rowK L = row (tL L) := by
  unfold rowK row Rect.part Rect.block
  congr 1 <;> funext a
  · rw [k1_off7_eq]
    match a with
    | 0 => simp [Shape.partIx, Shape.partSize, tileNo]; rfl
    | 1 => simp [Shape.partIx, Shape.partSize]
  · match a with
    | 0 => simp [Shape.partSize]
    | 1 => simp [Shape.partSize]

omit [FloatOps F] in
/-- The body's view of its row covers the task's row. -/
theorem set_oRowK : (oRowK L).view.set = rowSet (tL L) := by
  show (((oV).view.slice (rowK L)).reshape S2048 squeezes_S1x2048_S2048.numel_eq).set = ((oV).view.slice (row (tL L))).set
  rw [View.set_reshape]
  exact rowK_eq L ▸ rfl

omit [FloatOps F] in
/-- The task's row of the partial counts, in the body's spelling and the launch's. -/
theorem pts_oRowK (f : Buf (Elt F) (oLoc d)) :
    ((oRowK L).view.loc (V d (cV L) (jV L)) ↦[(oRowK L).view.set]{fullShare} f : sProp 𝕄) = oLoc d ↦[rowSet (tL L)]{fullShare} f := by
  rw [set_oRowK]

omit [FloatOps F] in
/-- The input's contents, in the body's spelling and the launch's. -/
theorem pts_x (q : PosShare TreeShare) (f : Buf (Elt F) (xLoc d)) :
    ((xV).view.loc (V d (cV L) (jV L)) ↦{q} f : sProp 𝕄) = xLoc d ↦{q} f := rfl
omit [FloatOps F] in
/-- The width's contents, likewise. -/
theorem pts_w (q : PosShare TreeShare) (f : Buf (Elt F) (wLoc d)) :
    ((wV).view.loc (V d (cV L) (jV L)) ↦{q} f : sProp 𝕄) = wLoc d ↦{q} f := rfl
omit [FloatOps F] in
/-- The counters' contents, likewise. -/
theorem pts_sH (f : Buf (Elt F) ((V d (cV L) (jV L)).loc cc1_scratch0)) :
    ((sH).view.loc (V d (cV L) (jV L)) ↦{fullShare} f : sProp 𝕄) = (V d (cV L) (jV L)).loc cc1_scratch0 ↦{fullShare} f := rfl
omit [FloatOps F] in
/-- The chunk buffer's contents, likewise. -/
theorem pts_sB (f : Buf (Elt F) ((V d (cV L) (jV L)).loc cc1_scratch1)) :
    ((sB).view.loc (V d (cV L) (jV L)) ↦{fullShare} f : sProp 𝕄) = (V d (cV L) (jV L)).loc cc1_scratch1 ↦{fullShare} f := rfl
omit [FloatOps F] in
/-- The width buffer's contents, likewise. -/
theorem pts_sW (f : Buf (Elt F) ((V d (cV L) (jV L)).loc cc1_scratch2)) :
    ((sW).view.loc (V d (cV L) (jV L)) ↦{fullShare} f : sProp 𝕄) = (V d (cV L) (jV L)).loc cc1_scratch2 ↦{fullShare} f := rfl
omit [FloatOps F] in
/-- The sums' contents, likewise. -/
theorem pts_sR (f : Buf (Elt F) ((V d (cV L) (jV L)).loc cc1_scratch3)) :
    ((sR).view.loc (V d (cV L) (jV L)) ↦{fullShare} f : sProp 𝕄) = (V d (cV L) (jV L)).loc cc1_scratch3 ↦{fullShare} f := rfl

/-- The three copies' cells. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)

omit [FloatOps F] in
/-- The tile's own semaphores at zero are the three copies' and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase
              (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped2.sem : SemLoc sig).isScoped .scVector = true; decide⟩⟩⟩)]

omit [FloatOps F] in
/-- The tile's own buffers are the four scratches, each at some contents, together with the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  have own : ∀ r : Ref sig .scVector, ((Proc.scVector (cV L) (jV L)).devRef r : DevRef τ sig).owner = .proc (.scVector (cV L) (jV L)) →
      (Proc.scVector (cV L) (jV L)).devRef r ∈ ownRefs (τ := τ) (.scVector (cV L) (jV L)) := fun r h =>
    SparseCore.Cfg.mem_ownRefs_of_owner (p := Proc.scVector (cV L) (jV L)) h
  have ne : ∀ {r r' : Ref sig .scVector}, r ≠ r' → (Proc.scVector (cV L) (jV L)).devRef r ≠ (Proc.scVector (cV L) (jV L)).devRef r' :=
    fun h e => h (Proc.devRef_injective _ e)
  refine (SparseCore.bigSep_erase' (own cc1_scratch0 rfl)).trans ?_
  rw [SparseCore.bigSep_erase' (Finset.mem_erase.mpr ⟨ne (show cc1_scratch1 ≠ cc1_scratch0 by decide), own cc1_scratch1 rfl⟩),
    SparseCore.bigSep_erase' (Finset.mem_erase.mpr ⟨ne (show cc1_scratch2 ≠ cc1_scratch1 by decide),
      Finset.mem_erase.mpr ⟨ne (show cc1_scratch2 ≠ cc1_scratch0 by decide), own cc1_scratch2 rfl⟩⟩),
    SparseCore.bigSep_erase' (Finset.mem_erase.mpr ⟨ne (show cc1_scratch3 ≠ cc1_scratch2 by decide),
      Finset.mem_erase.mpr ⟨ne (show cc1_scratch3 ≠ cc1_scratch1 by decide),
      Finset.mem_erase.mpr ⟨ne (show cc1_scratch3 ≠ cc1_scratch0 by decide), own cc1_scratch3 rfl⟩⟩⟩)]

/-! ## Reading and writing the buffers, as plain functions -/

omit [FloatOps F] in
/-- A counter, read by its position. -/
theorem at2_val (g : Vec F S32768 .f32) (i : S32768.Idx) : g i = at2 g (i 0).val := by
  unfold at2
  congr 1
  funext a
  obtain rfl : a = 0 := Subsingleton.elim _ _
  exact Fin.ext (Nat.mod_eq_of_lt (i 0).isLt).symm

omit [FloatOps F] in
/-- An element of the flat input, read by its position. -/
theorem at1_val (X : Vec F S33554432 .f32) (i : S33554432.Idx) : X i = at1 X (i 0).val := by
  unfold at1
  congr 1
  funext a
  obtain rfl : a = 0 := Subsingleton.elim _ _
  exact Fin.ext (Nat.mod_eq_of_lt (i 0).isLt).symm

omit [FloatOps F] in
/-- Sixteen counters loaded from `o` on. -/
theorem readAt_sH {off : Fin 1 → ℕ} (inb : ∀ a, off a + S16.size a ≤ S32768.size a) (o : ℕ) (heq : off = ![o])
    (f : Vec F S32768 .f32) (x : S16.Idx) :
    (sH).view.readAt (Elt F) (Rect.unit (s := S32768) off S16.size inb).toLoadRect f x = at2 f (o + (x 0).val) := by
  subst heq
  show f ((Rect.unit (s := S32768) ![o] S16.size inb).emb x) = _
  rw [at2_val f]
  congr 1
  show o + 1 * (x 0).val = _
  omega

omit [FloatOps F] in
/-- Sixteen elements of the chunk loaded from `o` on. -/
theorem readAt_sB {off : Fin 1 → ℕ} (inb : ∀ a, off a + S16.size a ≤ S32768.size a) (o : ℕ) (heq : off = ![o])
    (f : Vec F S32768 .f32) (x : S16.Idx) :
    (sB).view.readAt (Elt F) (Rect.unit (s := S32768) off S16.size inb).toLoadRect f x = at2 f (o + (x 0).val) := by
  subst heq
  show f ((Rect.unit (s := S32768) ![o] S16.size inb).emb x) = _
  rw [at2_val f]
  congr 1
  show o + 1 * (x 0).val = _
  omega

/-- One more block of sixteen counters cleared. -/
theorem clear_step {off : Fin 1 → ℕ} (inb : ∀ a, off a + S16.size a ≤ S32768.size a) (k : ℕ) (heq : off = ![16 * k])
    (f : Vec F S32768 .f32) (hf : ∀ i : S32768.Idx, (i 0).val < 16 * k → f i = Scalar.ofBits .f32 0x00000000#32) (i : S32768.Idx)
    (hi : (i 0).val < 16 * (k + 1)) :
    (sH).view.writes (Elt F) f [⟨Rect.unit (s := S32768) off S16.size inb, k1_pay2 (F := F)⟩] i = Scalar.ofBits .f32 0x00000000#32 := by
  show View.read (Elt F) (sH).view ((sH).view.writes (Elt F) f [⟨Rect.unit (s := S32768) off S16.size inb, k1_pay2 (F := F)⟩]) i = _
  by_cases h : (i 0).val < 16 * k
  · rw [View.read_writes_cons_unit_of_not_mem (sH).view f inb _ [] i heq 0 (.inl h)]
    exact hf i h
  · rw [View.read_writes_cons_unit_of_mem (sH).view f inb _ [] i (Shape.ofLane (⟨(i 0).val - 16 * k, by omega⟩ : Fin 16) : S16.Idx) heq
      (fun a => by obtain rfl : a = (0 : Fin 1) := Subsingleton.elim (α := Fin 1) _ _; show (i 0).val = 16 * k + ((i 0).val - 16 * k); omega)]
    rfl

/-- One more block of sixteen sums stored. -/
theorem fold_step {off : Fin 1 → ℕ} (inb : ∀ a, off a + S16.size a ≤ S2048.size a) (k : ℕ) (heq : off = ![16 * k])
    (f : Vec F S2048 .f32) (G : ℕ → F .f32) (hf : ∀ i : S2048.Idx, (i 0).val < 16 * k → f i = G (i 0).val)
    (w : Vec F S16 .f32) (hw : ∀ x : S16.Idx, w x = G (16 * k + (x 0).val)) (i : S2048.Idx) (hi : (i 0).val < 16 * (k + 1)) :
    (sR).view.writes (Elt F) f [⟨Rect.unit (s := S2048) off S16.size inb, w⟩] i = G (i 0).val := by
  show View.read (Elt F) (sR).view ((sR).view.writes (Elt F) f [⟨Rect.unit (s := S2048) off S16.size inb, w⟩]) i = _
  by_cases h : (i 0).val < 16 * k
  · rw [View.read_writes_cons_unit_of_not_mem (sR).view f inb _ [] i heq 0 (.inl h)]
    exact hf i h
  · rw [View.read_writes_cons_unit_of_mem (sR).view f inb _ [] i (Shape.ofLane (⟨(i 0).val - 16 * k, by omega⟩ : Fin 16) : S16.Idx) heq
      (fun a => by obtain rfl : a = (0 : Fin 1) := Subsingleton.elim (α := Fin 1) _ _; show (i 0).val = 16 * k + ((i 0).val - 16 * k); omega)]
    rw [hw]
    congr 1
    show 16 * k + ((i 0).val - 16 * k) = _
    omega

omit [FloatOps F] in
/-- What a chunk's copy reads: 32768 consecutive elements of the input from `o` on. -/
theorem read_chunk {off : Fin 1 → ℕ} (inb : ∀ a, off a + S32768.size a ≤ S33554432.size a) (o : ℕ) (heq : off = ![o])
    (X : Vec F S33554432 .f32) (i : S32768.Idx) :
    View.read (Elt F) ((xV).slice (Rect.unit (s := S33554432) off S32768.size inb) (fun _ => rfl)).view X i = at1 X (o + (i 0).val) := by
  subst heq
  show X ((Rect.unit (s := S33554432) ![o] S32768.size inb).emb i) = _
  rw [at1_val X]
  congr 1
  show o + 1 * (i 0).val = _
  omega

omit [FloatOps F] in
/-- Reading the counters whole reads their contents. -/
theorem access_read (f : Vec F S32768 .f32) : ((sH).access (.whole S32768)).read (Elt F) f = f := by
  funext i
  show f ((Rect.whole S32768).emb i) = f i
  rw [Rect.emb_whole_apply]

omit [FloatOps F] in
/-- Writing the counters whole leaves what is written. -/
theorem access_write (f w : Vec F S32768 .f32) : ((sH).access (.whole S32768)).write (Elt F) f w Finset.univ = w := by
  funext i
  have e : ((sH).access (.whole S32768)).emb i = i := Rect.emb_whole_apply S32768 i
  conv_lhs => rw [← e]
  rw [View.write_emb_of_mem _ _ (Finset.mem_univ _)]
  rfl

omit [FloatOps F] in
/-- The counters whole, as the scatter addresses them. -/
theorem pts_sH_access (d : Dev nD) (L : grid1.Coords) (f : Vec F S32768 .f32) :
    (((sH).access (.whole S32768)).loc (V d (cV L) (jV L)) ↦[((sH).access (.whole S32768)).set]{fullShare} f : sProp 𝕄)
      = ((sH).view.loc (V d (cV L) (jV L)) ↦{fullShare} f) := by
  rw [show ((sH).access (.whole S32768)).set = Finset.univ from Memref.set_access_whole (cc1_scratch0 : Ref sig .scVector)]

/-- What the folding stores: the sixteen rows added from the left. -/
theorem fold_pay (h : Vec F S32768 .f32) (k : Fin (Scf.trips k1_t4_loop.lb k1_t4_loop.ub k1_t4_loop.st)) (x : S16.Idx) :
    k1_pay4 (k1_pay5 ((sH).view.readAt (Elt F) (Rect.unit (s := S32768) (k1_off4 k) S16.size (k1_off4_inb k)).toLoadRect h)
        ((sH).view.readAt (Elt F) (Rect.unit (s := S32768) (k1_off5 k 2048#32) S16.size (k1_off5_inb k 0)).toLoadRect h)
        ((sH).view.readAt (Elt F) (Rect.unit (s := S32768) (k1_off5 k 4096#32) S16.size (k1_off5_inb k 1)).toLoadRect h)
        ((sH).view.readAt (Elt F) (Rect.unit (s := S32768) (k1_off5 k 6144#32) S16.size (k1_off5_inb k 2)).toLoadRect h)
        ((sH).view.readAt (Elt F) (Rect.unit (s := S32768) (k1_off5 k 8192#32) S16.size (k1_off5_inb k 3)).toLoadRect h)
        ((sH).view.readAt (Elt F) (Rect.unit (s := S32768) (k1_off5 k 10240#32) S16.size (k1_off5_inb k 4)).toLoadRect h)
        ((sH).view.readAt (Elt F) (Rect.unit (s := S32768) (k1_off5 k 12288#32) S16.size (k1_off5_inb k 5)).toLoadRect h)
        ((sH).view.readAt (Elt F) (Rect.unit (s := S32768) (k1_off5 k 14336#32) S16.size (k1_off5_inb k 6)).toLoadRect h))
        ((sH).view.readAt (Elt F) (Rect.unit (s := S32768) (k1_off5 k 16384#32) S16.size (k1_off5_inb k 7)).toLoadRect h)
        ((sH).view.readAt (Elt F) (Rect.unit (s := S32768) (k1_off5 k 18432#32) S16.size (k1_off5_inb k 8)).toLoadRect h)
        ((sH).view.readAt (Elt F) (Rect.unit (s := S32768) (k1_off5 k 20480#32) S16.size (k1_off5_inb k 9)).toLoadRect h)
        ((sH).view.readAt (Elt F) (Rect.unit (s := S32768) (k1_off5 k 22528#32) S16.size (k1_off5_inb k 10)).toLoadRect h)
        ((sH).view.readAt (Elt F) (Rect.unit (s := S32768) (k1_off5 k 24576#32) S16.size (k1_off5_inb k 11)).toLoadRect h)
        ((sH).view.readAt (Elt F) (Rect.unit (s := S32768) (k1_off5 k 26624#32) S16.size (k1_off5_inb k 12)).toLoadRect h)
        ((sH).view.readAt (Elt F) (Rect.unit (s := S32768) (k1_off5 k 28672#32) S16.size (k1_off5_inb k 13)).toLoadRect h)
        ((sH).view.readAt (Elt F) (Rect.unit (s := S32768) (k1_off5 k 30720#32) S16.size (k1_off5_inb k 14)).toLoadRect h) x
      = laneSum h 15 (16 * k.val + (x 0).val) := by
  have e0 := readAt_sH (k1_off4_inb k) _ (k1_off4_eq k) h x
  have e : ∀ (r : Fin 15) (c : BitVec 32) (hc : c = BitVec.ofNat 32 (2048 + 2048 * r.val)) (inb),
      (sH).view.readAt (Elt F) (Rect.unit (s := S32768) (k1_off5 k c) S16.size inb).toLoadRect h x
        = at2 h (2048 * r.val + (16 * k.val + (x 0).val) + 2048) := by
    rintro r c rfl inb
    rw [readAt_sH inb _ (k1_off5_eq k r) h x]
    congr 1
    omega
  exact congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf e0
    (e 0 _ rfl (k1_off5_inb k 0)))
    (e 1 _ rfl (k1_off5_inb k 1)))
    (e 2 _ rfl (k1_off5_inb k 2)))
    (e 3 _ rfl (k1_off5_inb k 3)))
    (e 4 _ rfl (k1_off5_inb k 4)))
    (e 5 _ rfl (k1_off5_inb k 5)))
    (e 6 _ rfl (k1_off5_inb k 6)))
    (e 7 _ rfl (k1_off5_inb k 7)))
    (e 8 _ rfl (k1_off5_inb k 8)))
    (e 9 _ rfl (k1_off5_inb k 9)))
    (e 10 _ rfl (k1_off5_inb k 10)))
    (e 11 _ rfl (k1_off5_inb k 11)))
    (e 12 _ rfl (k1_off5_inb k 12)))
    (e 13 _ rfl (k1_off5_inb k 13)))
    (e 14 _ rfl (k1_off5_inb k 14))

omit [FloatOps F] in
/-- Sixteen elements of a chunk are sixteen elements of the input. -/
theorem chunk_lanes (X : Vec F S33554432 .f32) (b k : ℕ) (j : Fin (Scf.trips k1_t3_loop.lb k1_t3_loop.ub k1_t3_loop.st)) :
    (sB).view.readAt (Elt F) (Rect.unit (s := S32768) (k1_off3 j) S16.size (k1_off3_inb j)).toLoadRect
        (fun i : S32768.Idx => at1 X (b + 32768 * k + (i 0).val))
      = lanes X (b + 16 * (2048 * k + j.val)) := by
  funext x
  have hj : j.val < 2048 := j.isLt
  have hx : (x 0).val < 16 := (x 0).isLt
  rw [readAt_sB (k1_off3_inb j) _ (k1_off3_eq j)]
  unfold at2 lanes
  show at1 X (b + 32768 * k + (16 * j.val + (x 0).val) % 32768) = _
  congr 1
  rw [Nat.mod_eq_of_lt (by omega)]
  omega

/-- A scatter of sixteen ones is a counting step. -/
theorem store_step (W v v' : Vec F S16 .f32) (g : Vec F S32768 .f32) (hv : v = v') (h : k1_chk1 (k1_pay3 W v)) :
    ((sH).access (.whole S32768)).write (Elt F) g
      (storeIdx (((sH).access (.whole S32768)).read (Elt F) g) ![k1_pay3 W v] (k1_pay1 (F := F)) (fun _ => 1#1) true (k1_idx1_inb _ h))
      Finset.univ = histStep W g v' := by
  subst hv
  rw [access_write, access_read]
  unfold histStep
  rw [dif_pos h]

omit [FloatOps F] in
/-- The cell of the partial counts that a row's `j`-th entry goes to. -/
theorem row_emb (j : S2048.Idx) :
    ((oRowK L).view.emb j : S32x2048.Idx) = (rowK L).emb (Fin.cons ⟨0, Nat.one_pos⟩ j) := by
  show (rowK L).emb (Shape.reshapeEquiv squeezes_S1x2048_S2048.numel_eq j) = _
  rw [Shape.reshapeEquiv_cons_one]

/-- A position in a block is its offset and the position inside. -/
theorem unit_emb_val (off : Fin 2 → ℕ) (inb : ∀ a, off a + S1x2048.size a ≤ S32x2048.size a) (x : S1x2048.Idx) (a : Fin 2) :
    (((Rect.unit (s := S32x2048) off S1x2048.size inb).emb x : S32x2048.Idx) a).val = off a + 1 * (x a).val := rfl

/-- An entry of the body's row lies in the task's row, -/
theorem row_emb0 (j : S2048.Idx) : (((oRowK L).view.emb j : S32x2048.Idx) 0).val = (tL L).val := by
  rw [row_emb, unit_emb_val (k1_off7 L) (k1_off7_inb L) _ 0, k1_off7_eq]
  show (16 * (L 0).val + (L 1).val) + 1 * 0 = _
  rw [Nat.mul_zero, Nat.add_zero]
  rfl

/-- at its own column. -/
theorem row_emb1 (j : S2048.Idx) : (((oRowK L).view.emb j : S32x2048.Idx) 1).val = (j 0).val := by
  rw [row_emb, unit_emb_val (k1_off7 L) (k1_off7_inb L) _ 1, k1_off7_eq]
  show 0 + 1 * (j 0).val = _
  rw [Nat.zero_add, Nat.one_mul]

omit [FloatOps F] in
/-- Reading the row reads the array there. -/
theorem row_read (f : Vec F S32x2048 .f32) (j : S2048.Idx) :
    View.read (Elt F) (oRowK L).view f j = f ((oRowK L).view.emb j) := rfl

/-- The row of the partial counts, written with the 2048 sums. -/
theorem row_value (X : Vec F S33554432 .f32) (W : Vec F S16 .f32) (fo : Vec F S32x2048 .f32) (g : Vec F S2048 .f32)
    (hg : ∀ i : S2048.Idx, g i = laneSum (histN X W (1048576 * (tL L).val) 65536) 15 (i 0).val) :
    ∀ i ∈ (oRowK L).view.set, (oRowK L).view.writes (Elt F) fo [⟨Rect.whole S2048, g⟩] i = OUT X W i := by
  intro i hi
  obtain ⟨j, -, rfl⟩ := Finset.mem_map.mp hi
  refine (row_read L _ j).symm.trans ?_
  rw [View.read_writes_whole, hg j]
  unfold OUT partial1
  rw [row_emb0, row_emb1]

variable (X : Dev nD → Vec F S33554432 .f32) (W : Dev nD → Vec F S16 .f32) (m : (ℓ : Loc nD τ sig) → Buf (Elt F) ℓ)

/-- The tile thread. -/
abbrev thr : Thread nD τ := V d (cV L) (jV L)

/-- Clearing the counters: before trip `k` the first `16 k` are zero. -/
def inv1 (k : Nat) (_ : Unit) : sProp 𝕄 :=
  iprop(∃ f : Vec F S32768 .f32, ⌜∀ i, (i 0).val < 16 * k → f i = Scalar.ofBits .f32 0x00000000#32⌝
    ∗ ((sH).view.loc (thr d L) ↦{fullShare} f))

/-- The first element of the task. -/
abbrev base (L : grid1.Coords) : ℕ := 1048576 * (tL L).val

/-- Streaming: before chunk `k` the counters have taken `2048 k` steps. -/
def inv2 (O : CellTallies nD τ sig (HIx 1)) (Wt : Waits sig (HIx 1)) (k : Nat) (_ : Unit) : sProp 𝕄 :=
  iprop(Transfers.MayWaits (thr d L) (default : HIx 1) O
    ∗ ((xV).view.loc (thr d L) ↦{rq (tL L)} X d)
    ∗ ((sH).view.loc (thr d L) ↦{fullShare} histN (X d) (W d) (base L) (2048 * k))
    ∗ (∃ f : Vec F S32768 .f32, (sB).view.loc (thr d L) ↦{fullShare} f)
    ∗ semVal (thr d L, SemLoc.dma cc1_scoped1.sem) 0
    ∗ ∃ W', ⌜∀ p ∈ W', p ∈ Wt ∨ p.2 = none⌝ ∗ owes (thr d L) O W')

/-- Counting a chunk `f`: before trip `j` of chunk `k` the counters have taken `2048 k + j` steps. -/
def inv3 (k : Nat) (f : Vec F S32768 .f32) (j : Nat) (_ : Unit) : sProp 𝕄 :=
  iprop(((sH).view.loc (thr d L) ↦{fullShare} histN (X d) (W d) (base L) (2048 * k + j))
    ∗ ((sB).view.loc (thr d L) ↦{fullShare} f))

/-- Folding: before trip `k` the first `16 k` sums are in place. -/
def inv4 (h : Vec F S32768 .f32) (k : Nat) (_ : Unit) : sProp 𝕄 :=
  iprop(((sH).view.loc (thr d L) ↦{fullShare} h)
    ∗ ∃ f : Vec F S2048 .f32, ⌜∀ i, (i 0).val < 16 * k → f i = laneSum h 15 (i 0).val⌝
    ∗ ((sR).view.loc (thr d L) ↦{fullShare} f))

/-- The body of a tile: from its shares of the input and of the width and its row of the partial counts, it ends with the row holding its elements' counts, every semaphore at zero. -/
theorem tile_body (hok : ∀ v : Vec F S16 .f32, k1_chk1 (k1_pay3 (W d) v)) (hF : (K (F := F)).Facts)
    (O : CellTallies nD τ sig (HIx 1)) (Wt : Waits sig (HIx 1)) (hO : ∀ g, O g none = 0) :
    iprop(levAts (K (F := F)).L (K (F := F)).lev ∗ emp ∗ inPts X W m d (tL L)
        ∗ scopedBufs (V d (cV L) (jV L)) ∗ scopedSems0 (V d (cV L) (jV L)) ∗ owes (V d (cV L) (jV L)) O Wt)
      ⊢ wp frame (wpE (defs₀ (F := F)) 𝒱₀ (V d (cV L) (jV L)) none) Set.univ
          (cc1_body L xV (Memref.isWhole_whole _) wV (Memref.isWhole_whole _) oV (Memref.isWhole_whole _)
            sH (Memref.isWhole_whole _) sB (Memref.isWhole_whole _) sW (Memref.isWhole_whole _) sR (Memref.isWhole_whole _)
            cc1_scoped0 cc1_scoped1 cc1_scoped2)
          fun _ => iprop(outPts X W d (tL L)
            ∗ scopedBufs (V d (cV L) (jV L)) ∗ scopedSems0 (V d (cV L) (jV L))
            ∗ ∃ W', ⌜∀ p ∈ W', p ∈ Wt ∨ p.2 = none ∨ p.2 = some (0 : Fin 1)⌝ ∗ owes (V d (cV L) (jV L)) O W') := by
  unfold inPts outPts
  rw [(K (F := F)).scopedBufs_V hF d (cV L) (jV L), SparseCore.Cfg.scopedSems0_V (Val := Elt F) d (cV L) (jV L), ownSems0_V, ownBufs_V]
  iintro ⟨#Hlv, -, ⟨Hx, Hw, Ho⟩, ⟨⟨%fh, Hh⟩, ⟨%fb, Hb⟩, ⟨%fw, Hsw⟩, ⟨%fr, Hr⟩, Hbufs⟩, ⟨HsA, HsB, HsC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_x (F := F) d L _ _).symm) $$ Hx
  ihave Hw' := (Entails.of_eq (pts_w (F := F) d L _ _).symm) $$ Hw
  ihave Ho' := (Entails.of_eq (pts_oRowK (F := F) d L _).symm) $$ Ho
  ihave Hh' := (Entails.of_eq (pts_sH (F := F) d L _).symm) $$ Hh
  ihave Hb' := (Entails.of_eq (pts_sB (F := F) d L _).symm) $$ Hb
  ihave Hsw' := (Entails.of_eq (pts_sW (F := F) d L _).symm) $$ Hsw
  ihave Hr' := (Entails.of_eq (pts_sR (F := F) d L _).symm) $$ Hr
  sl_unfold [cc1_body]
  sl_exec
  have hW : View.readAt (Elt F) (sW).view (Rect.unit (s := S16) ![0] S16.size inb_S16_S16_0).toLoadRect
      (View.write (Elt F) (sW).view fw (tile_body.sl.dma0 d W) Finset.univ) = W d := by
    unfold tile_body.sl.dma0
    funext x
    show (sW).view.write (Elt F) fw (View.read (Elt F) (wV).view (W d)) Finset.univ ((Rect.unit (s := S16) ![0] S16.size inb_S16_S16_0).emb x) = W d x
    rw [show (sW).view.write (Elt F) fw (View.read (Elt F) (wV).view (W d)) Finset.univ = W d from View.write_whole_univ (cc1_scratch2 : Ref sig .scVector) fw (W d)]
    show W d ((Rect.unit (s := S16) ![0] S16.size inb_S16_S16_0).emb x) = W d x
    congr 1
    funext a
    obtain rfl : a = 0 := Subsingleton.elim _ _
    exact Fin.ext (show 0 + 1 * (x 0).val = (x 0).val by omega)
  generalize View.readAt (Elt F) (sW).view (Rect.unit (s := S16) ![0] S16.size inb_S16_S16_0).toLoadRect
      (View.write (Elt F) (sW).view fw (tile_body.sl.dma0 d W) Finset.univ) = v3 at hW
  subst hW
  sl_for (inv1 (F := F) d L) $$ [Hh']
  case region =>
    intro k _
    unfold inv1
    iintro ⟨%f, %hf, Hh⟩
    sl_exec
    sl_step
    iexists _
    isplitr
    swap; · iexact Hh
    ipureintro
    exact fun i hi => clear_step _ k.val (k1_off1_eq k) f hf i hi
  · unfold inv1
    iexists _
    isplitr
    swap; · iexact Hh'
    ipureintro
    exact fun i hi => absurd hi (by omega)
  iintro %_ HI
  unfold inv1
  icases HI with ⟨%h0, %hh0, Hh⟩
  have h0eq : h0 = histN (X d) (W d) (base L) 0 := funext fun i => hh0 i (i 0).isLt
  subst h0eq
  sl_exec
  sl_for (inv2 (F := F) d L X W O Wt) $$ [Hmw Hx' Hh Hb' HsB HO]
  case region =>
    intro k _
    unfold inv2
    iintro ⟨Hmw, Hx, Hh, ⟨%fb, Hb⟩, HsB, %W', %hW', HO⟩
    sl_exec (disch := exact View.amount_pos _ _ (show 0 < S32768.numel by decide))
    have hc : View.write (Elt F) (sB).view fb (tile_body.sl.dma0_1 d L X k) Finset.univ
        = fun i => at1 (X d) (base L + 32768 * k.val + (i 0).val) := by
      unfold tile_body.sl.dma0_1
      refine (View.write_whole_univ (cc1_scratch1 : Ref sig .scVector) fb _).trans ?_
      funext i
      exact read_chunk (k1_off2_inb L k) _ ((k1_off2_eq L k).trans (by
        congr 1; show _ = 1048576 * (16 * (L 0).val + (L 1).val) + _; omega)) (X d) i
    rw [hc]
    sl_for (inv3 (F := F) d L X W k.val (fun i => at1 (X d) (base L + 32768 * k.val + (i 0).val))) $$ [Hh Hb]
    case region =>
      intro j _
      unfold inv3
      iintro ⟨Hh, Hb⟩
      sl_exec (disch := exact hok _)
      ihave Hh' := (Entails.of_eq (pts_sH_access (F := F) d L _).symm) $$ Hh
      iapply (SparseCore.wp_vectorStoreIdx 𝒱₀ (V d (cV L) (jV L)) none Set.univ (base := sH)) $$ Hh'
      iintro Hh'
      ihave Hh := (Entails.of_eq (pts_sH_access (F := F) d L _)) $$ Hh'
      sl_step
      isplitl [Hh]
      · have e := store_step (W d) _ _ (histN (X d) (W d) (base L) (2048 * k.val + j.val)) (chunk_lanes (X d) (base L) k.val j) (hok _)
        iapply (Entails.of_eq (congrArg (fun f : Vec F S32768 .f32 => ((sH).view.loc (V d (cV L) (jV L)) ↦{fullShare} f : sProp 𝕄)) e))
        iexact Hh
      iexact Hb
    · unfold inv3
      isplitl [Hh]; · iexact Hh
      iexact Hb
    iintro %_ HI
    unfold inv3
    icases HI with ⟨Hh, Hb⟩
    sl_exec
    sl_step
    isplitl [Hmw]; · iexact Hmw
    isplitl [Hx]; · iexact Hx
    isplitl [Hh]; · iexact Hh
    isplitl [Hb]; · iexists _; iexact Hb
    isplitl [HsB]; · iexact HsB
    iexists _; isplitr
    swap; · iexact HO
    ipureintro; intro p hp
    rcases Finset.mem_insert.mp hp with hp | hp
    · exact .inr (hp ▸ rfl)
    · exact hW' p hp
  · unfold inv2
    isplitl [Hmw]; · iexact Hmw
    isplitl [Hx']; · iexact Hx'
    isplitl [Hh]; · iexact Hh
    isplitl [Hb']; · iexists _; iexact Hb'
    isplitl [HsB]; · iexact HsB
    iexists _; isplitr
    swap; · iexact HO
    ipureintro; intro p hp
    rcases Finset.mem_insert.mp hp with hp | hp
    · exact .inr (hp ▸ rfl)
    · exact .inl hp
  iintro %_ HI
  unfold inv2
  icases HI with ⟨-, Hx, Hh, ⟨%fb', Hb⟩, HsB, %W', %hW', HO⟩
  sl_exec
  sl_for (inv4 (F := F) d L (histN (X d) (W d) (base L) 65536)) $$ [Hh Hr']
  case region =>
    intro k _
    unfold inv4
    iintro ⟨Hh, %f, %hf, Hr⟩
    sl_exec
    sl_step
    isplitl [Hh]; · iexact Hh
    iexists _
    isplitr
    swap; · iexact Hr
    ipureintro
    unfold tile_body.sl.r tile_body.sl.r_1
    exact fun i hi => fold_step _ k.val (k1_off6_eq k) f (laneSum (histN (X d) (W d) (base L) 65536) 15) hf _
      (fold_pay (histN (X d) (W d) (base L) 65536) k) i hi
  · unfold inv4
    isplitl [Hh]; · iexact Hh
    iexists _
    isplitr
    swap; · iexact Hr'
    ipureintro
    exact fun i hi => absurd hi (by omega)
  iintro %_ HI
  unfold inv4
  icases HI with ⟨Hh, %fr', %hfr', Hr⟩
  sl_exec (disch := exact View.amount_pos _ _ (show 0 < S2048.numel by decide))
  sl_step
  isplitl [Hx Hw' Ho']
  · isplitl [Hx]; · iexact Hx
    isplitl [Hw']; · iexact Hw'
    iapply (Entails.of_eq (pts_oRowK (F := F) d L _))
    iapply (Entails.of_eq (pointsTo_congr (row_value L (X d) (W d) _ _ (fun i => hfr' i (i 0).isLt))))
    iexact Ho'
  isplitl [Hh Hb Hsw' Hr Hbufs]
  · isplitl [Hh]; · iexists _; iexact Hh
    isplitl [Hb]; · iexists _; iexact Hb
    isplitl [Hsw']; · iexists _; iexact Hsw'
    isplitl [Hr]; · iexists _; iexact Hr
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; intro p _
  rcases p.2 with _ | q
  · exact .inr (.inl rfl)
  · exact .inr (.inr (congrArg some (Subsingleton.elim q 0)))

end Tile

end Cert.ClampedIdeal.Own

end
-- ==== Proof.ClampedIdealAbsmax.lean ====
/-
  The kernel's TensorCore part: the largest absolute value of the input, over a grid of sixteen row blocks.

  Every point loads its 512 x 4096 block and takes the maximum of the absolute values (`k0_pay1`); the first point stores it in the
  one-element result, every later one stores the maximum of it and what the result holds (`k0_pay2`). So the result ends holding the
  running maximum `chain` after the last point. `reg` states this of the whole region, entered from any contents of the arrays.
-/
module

public import proofs.«01_k».proof.Proof.ClampedIdealTile
public import proofs.«01_k».proof.Proof.Gen.ClampedIdeal.Launch
public import proofs.«01_k».proof.Proof.Gen.ClampedIdeal.Points
public import Idealize.ShloMosaic.Lib.Pipeline.RegionsLoop
public import Idealize.ShloMosaic.Lib.Pipeline.Value

@[expose] public section

noncomputable section

namespace Cert.ClampedIdeal.Own

open Cert.ClampedIdeal Cert.ClampedIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F]

local notation "𝕄" => MT nD τ sig (HIx 1) (Elt F) ℕ UU ℕ

/-! ## What the region computes -/

/-- The block of point `n`: rows 512 n to 512 n + 511. -/
def blkAt (A : Vec F S8192x4096 .f32) (n : ℕ) : Vec F S512x4096 .f32 := fun j =>
  A (fun a => match a with
    | ⟨0, _⟩ => (⟨(512 * n + (j 0).val) % 8192, Nat.mod_lt _ (by norm_num)⟩ : Fin 8192)
    | ⟨1, _⟩ => (⟨(j 1).val, (j 1).isLt⟩ : Fin 4096))

/-- The running maximum of the absolute values after point `n`. -/
def chain (A : Vec F S8192x4096 .f32) : ℕ → F .f32
  | 0 => k0_pay1 (blkAt A 0)
  | n + 1 => k0_pay2 (blkAt A (n + 1)) (chain A n)

/-- The two zero offsets are the zero function. -/
theorem hz2 : (![0, 0] : Fin 2 → Nat) = fun _ => 0 := funext fun a => by fin_cases a <;> rfl

/-! ## The body -/

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A load of the whole block reads the whole block. -/
theorem load_whole (M0 : Memref sig .tc .vmem S512x4096 .f32) (f0 : M0.view.ty.Contents (Elt F)) :
    View.readAt (Elt F) M0.view (Rect.unit (s := S512x4096) ![0, 0] S512x4096.size inb_S512x4096_S512x4096_0_0).toLoadRect f0 = M0.view.read (Elt F) f0 := by
  rw [View.readAt_eq_ld, View.ld_unit_zero (S := S512x4096) hz2]

/-- A store of the result's one element leaves just that element. -/
theorem store_one (M1 : Memref sig .tc .smem S1x1 .f32) (f1 : M1.view.ty.Contents (Elt F)) (G : F .f32) :
    M1.view.read (Elt F) (M1.view.writes (Elt F) f1 [⟨Rect.unit (s := S1x1) ![0, 0] S1x1.size inb_S1x1_S1x1_0_0, fun _ => G⟩]) = fun _ => G := by
  rw [View.read_writes_eq_canon _ _ _ (fun y => ⟨_, List.mem_singleton.mpr rfl, by
    rw [Rect.mem_set_unit]; intro a; have := (y a).isLt
    match a with
    | ⟨0, _⟩ => exact ⟨Nat.zero_le _, by simpa using this⟩
    | ⟨1, _⟩ => exact ⟨Nat.zero_le _, by simpa using this⟩⟩), View.canon_unit_zero (S := S1x1) hz2]
  rfl

/-- The body at the grid's first point: it stores the block's maximum in the result word. -/
theorem body_first (c : Dev nD) (i : grid0.Coords) (h1 : k0_cond1 i = 1#1) (h2 : k0_cond2 i ≠ 1#1)
    (M0 : Memref sig .tc .vmem S512x4096 .f32) (w0 : M0.IsWhole) (M1 : Memref sig .tc .smem S1x1 .f32) (w1 : M1.IsWhole)
    (f0 : Bf (F := F) c M0) (f1 : Bf (F := F) c M1) (Q : PUnit → sProp 𝕄) :
    iprop(pt c M0 f0 ∗ pt c M1 f1 ∗ (iprop(pt c M0 f0 ∗ ∃ g, ⌜M1.view.read (Elt F) g = fun _ => k0_pay1 (M0.view.read (Elt F) f0)⌝ ∗ pt c M1 g) -∗ Q ⟨⟩))
      ⊢ wp frame (wpE (defs₀ (F := F)) Variants.none (c : Thread nD τ) none) Set.univ (cc0__absmax_body i M0 w0 M1 w1) Q := by
  rw [cc0__absmax_body_eq_skeleton]
  unfold cc0__absmax_body_skel
  simp only [dif_pos h1, dif_neg h2]
  iintro ⟨H0, H1, Hk⟩
  sl_exec
  sl_step
  iapply Hk
  isplitl [H0]; · iexact H0
  iexists _; isplitr; swap; (· iexact H1); ipureintro
  exact (store_one M1 f1 _).trans (funext fun _ => congrArg k0_pay1 (load_whole M0 f0))

/-- The body at a later point: it stores the larger of the result word and the block's maximum. -/
theorem body_rest (c : Dev nD) (i : grid0.Coords) (h1 : k0_cond1 i ≠ 1#1) (h2 : k0_cond2 i = 1#1)
    (M0 : Memref sig .tc .vmem S512x4096 .f32) (w0 : M0.IsWhole) (M1 : Memref sig .tc .smem S1x1 .f32) (w1 : M1.IsWhole)
    (f0 : Bf (F := F) c M0) (f1 : Bf (F := F) c M1) (Q : PUnit → sProp 𝕄) :
    iprop(pt c M0 f0 ∗ pt c M1 f1 ∗ (iprop(pt c M0 f0 ∗ ∃ g, ⌜∀ v, M1.view.read (Elt F) f1 = (fun _ => v) →
        M1.view.read (Elt F) g = fun _ => k0_pay2 (M0.view.read (Elt F) f0) v⌝ ∗ pt c M1 g) -∗ Q ⟨⟩))
      ⊢ wp frame (wpE (defs₀ (F := F)) Variants.none (c : Thread nD τ) none) Set.univ (cc0__absmax_body i M0 w0 M1 w1) Q := by
  rw [cc0__absmax_body_eq_skeleton]
  unfold cc0__absmax_body_skel
  simp only [dif_neg h1, dif_pos h2]
  iintro ⟨H0, H1, Hk⟩
  sl_exec
  sl_step
  iapply Hk
  isplitl [H0]; · iexact H0
  iexists _; isplitr; swap; (· iexact H1); ipureintro
  intro v hv
  refine (store_one M1 f1 _).trans (funext fun _ => congrArg₂ k0_pay2 (load_whole M0 f0) ?_)
  sl_unfold_words
  rw [View.readAt_eq_ld]
  exact congrFun ((View.ld_unit_zero (S := S1x1) hz2 _ _).trans hv) _

/-- A whole memref owned at contents, as its buffer held. -/
theorem owns_pt (c : Dev nD) {sp : Space} {S : Shape} {e : EltTy} (M : Memref sig .tc sp S e) (w : M.IsWhole) (X : S.Idx → Elt F e) :
    (owns (c : Thread nD τ) M fullShare X : sProp 𝕄) = iprop(∃ f, ⌜M.view.read (Elt F) f = X⌝ ∗ pt c M f) := by
  unfold owns; rw [w.set_eq_univ]

/-! ## The proof data, at an entry valuation -/

variable (Vc : (c : Dev nD) → (b : Ref sig .tc) → Buf (Elt F) ((c : Thread nD τ).loc b))

/-- The pairs of a core's waits whose level is below every call's. -/
abbrev recs (c : Dev nD) : Set (SemLoc sig × HIx 1) := {p | (K (F := F)).lev ((T c : Thread nD τ), p.1) p.2 ≤ 0}

/-- The proof data of the region entered at `Vc`: the input's block as fetched, the result at the running maximum; the core still
    owes the SparseCores their starts. -/
def dat (c : Dev nD) : Dat τ (Elt F) (HIx 1) ℕ UU ℕ cfg0 c where
  A w := Vc c (Pipeline.arrRef spec0 w)
  after w t := match w with
    | ⟨0, _⟩ => blkAt (Vc c main_v0) t.val
    | ⟨1, _⟩ => fun _ => chain (Vc c main_v0) t.val
  Φ _ := Pipeline.scopedRest (Ix := HIx 1) (Name := ℕ) (U := UU) (Lvl := ℕ) (Val := Elt F) spec0 c
  q _ := fullShare
  owed _ := (K (F := F)).Otc c 0
  recorded _ := recs (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat Vc c

/-- The block of the input that a point reads is the one with its number. -/
theorem idx0_0 (t : Fin cfg0.N) : win0_0.index t 0 = t.val ∧ win0_0.index t 1 = 0 := by
  rcases fin_N0 t with rfl | rfl | rfl | rfl | rfl | rfl | rfl | rfl | rfl | rfl | rfl | rfl | rfl | rfl | rfl | rfl <;> decide

/-- The first branch is taken at point zero alone, the second at every other point. -/
theorem conds (t : Fin cfg0.N) : (t.val = 0 → k0_cond1 (grid0.coords t) = 1#1 ∧ k0_cond2 (grid0.coords t) ≠ 1#1)
    ∧ (t.val ≠ 0 → k0_cond1 (grid0.coords t) ≠ 1#1 ∧ k0_cond2 (grid0.coords t) = 1#1) := by
  rcases fin_N0 t with rfl | rfl | rfl | rfl | rfl | rfl | rfl | rfl | rfl | rfl | rfl | rfl | rfl | rfl | rfl | rfl <;> decide

/-- The result window is in use at every point. -/
theorem live1 : ∀ i, cfg0.idle 1 i = false := by decide

/-- The block a point fetches. -/
theorem blk_read (A : Vec F S8192x4096 .f32) (t : Fin cfg0.N) :
    (((cfg0.win 0).blk t).view.read (Elt F) A : Vec F S512x4096 .f32) = blkAt A t.val := by
  have hi := idx0_0 t
  have hN : cfg0.N = 16 := N_0
  have ht := t.isLt
  funext j
  rw [View.read_apply]
  show A _ = A _
  congr 1
  funext a
  apply Fin.ext
  have h0 : (j 0).val < 512 := (j 0).isLt
  match a with
  | ⟨0, _⟩ => show win0_0.index t 0 * 512 + 1 * (j 0).val = (512 * t.val + (j 0).val) % 8192; rw [hi.1, Nat.mod_eq_of_lt (by omega)]; omega
  | ⟨1, _⟩ => show win0_0.index t 1 * 4096 + 1 * (j 1).val = (j 1).val; rw [hi.2]; omega

/-- Before a point's body the input window holds the point's block. -/
theorem before_in (c : Dev nD) (t : Fin cfg0.N) (d : (cfg0.win 0).block.Idx → Elt F (cfg0.win 0).elt) :
    (dat Vc c).before 0 t d = blkAt (Vc c main_v0) t.val := by
  rw [(dat Vc c).before_fetched 0 t (fetch0_0 t), ← blk_read]; rfl

/-- Before a later point the result word holds the running maximum so far. -/
theorem before_out (c : Dev nD) (t : Fin cfg0.N) (ht : t.val ≠ 0) (d : (cfg0.win 1).block.Idx → Elt F (cfg0.win 1).elt) :
    (dat Vc c).before 1 t d = fun _ => chain (Vc c main_v0) (t.val - 1) := by
  have hN : cfg0.N = 16 := N_0
  have := t.isLt
  rw [(dat Vc c).before_out_kept 1 rfl t ht (by
    rw [Bool.eq_false_iff]; intro h; have := (flush0_1 _).mp h; dsimp only at this; omega) live1 (fun _ _ => rfl)]
  rfl

/-- The body's obligation at every point. -/
theorem body_obligation (c : Dev nD) : BodyObligation (dat Vc c) (defs₀ (F := F)) 𝒱₀ none Set.univ := fun t => by
  rw [bigSep_W0, bigSep_W0]
  simp only [owns_pt _ _ (stage_whole0 0 _), owns_pt _ _ (stage_whole0 1 _), show idle0 1 (grid0.coords t) = false from live1 _]
  rw [show (dat Vc c).Φ t.succ = (dat Vc c).Φ t.castSucc from rfl, show (dat Vc c).owesAt none t.succ = (dat Vc c).owesAt none t.castSucc from rfl]
  iintro ⟨HΦ, Howes, ⟨%d0, %f0, %hf0, H0⟩, ⟨%d1, %f1, %hf1, H1⟩⟩
  rw [before_in] at hf0
  by_cases ht : t.val = 0
  · obtain ⟨c1, c2⟩ := (conds t).1 ht
    iapply (body_first c (grid0.coords t) c1 c2 (st0_0 t) (stage_whole0 0 _) (st0_1 t) (stage_whole0 1 _) f0 f1 _)
    isplitl [H0]; · iexact H0
    isplitl [H1]; · iexact H1
    iintro ⟨H0, ⟨%g, %hg, H1⟩⟩
    isplitl [HΦ]; · iexact HΦ
    isplitl [Howes]; · iexact Howes
    isplitl [H0]
    · iexists _; isplitr; swap; (· iexact H0); ipureintro; exact hf0
    · iexists _; isplitr; swap; (· iexact H1); ipureintro; refine hg.trans ?_
      rw [hf0]; show _ = fun _ => chain (Vc c main_v0) t.val; rw [ht]; rfl
  · obtain ⟨c1, c2⟩ := (conds t).2 ht
    rw [before_out _ _ _ ht] at hf1
    iapply (body_rest c (grid0.coords t) c1 c2 (st0_0 t) (stage_whole0 0 _) (st0_1 t) (stage_whole0 1 _) f0 f1 _)
    isplitl [H0]; · iexact H0
    isplitl [H1]; · iexact H1
    iintro ⟨H0, ⟨%g, %hg, H1⟩⟩
    isplitl [HΦ]; · iexact HΦ
    isplitl [Howes]; · iexact Howes
    isplitl [H0]
    · iexists _; isplitr; swap; (· iexact H0); ipureintro; exact hf0
    · iexists _; isplitr; swap; (· iexact H1); ipureintro; refine (hg _ hf1).trans ?_
      rw [hf0]; show _ = fun _ => chain (Vc c main_v0) t.val
      obtain ⟨k, hk⟩ := Nat.exists_eq_succ_of_ne_zero ht
      rw [hk]; rfl

/-! ## What the result array ends holding -/

/-- The largest absolute value, as contents of the one-element result. -/
abbrev result (c : Dev nD) : Buf (Elt F) ((c : Thread nD τ).loc main_v1) := fun _ => chain (Vc c main_v0) 15

/-- What is written back at the end is the running maximum after the last point. -/
theorem flushed_eq (c : Dev nD) (t : Fin cfg0.N) (hf : (cfg0.win 1).flush t = true) :
    (dat Vc c).flushed 1 t = ((cfg0.win 1).blk t).view.read (Elt F) (result Vc c) := by
  have hN : cfg0.N = 16 := N_0
  have h3 : t.val = 15 := by have := (flush0_1 t).mp hf; have := t.isLt; omega
  obtain rfl : t = t0_15 := Fin.ext h3
  rfl

/-- The result array ends holding the running maximum after the last point. -/
theorem final_o (c : Dev nD) : (dat Vc c).arrAt 1 cfg0.N = result Vc c :=
  (dat Vc c).arrAt_eq_of_cover 1 (result Vc c) (flushed_eq Vc c) fun i =>
    ⟨t0_15, (flush0_1 t0_15).mpr rfl, by
      show i ∈ ((View.whole main_v1).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega⟩

/-! ## The region -/

variable (Vp : (c : Dev nD) → (b : Ref sig .tc) → Buf (Elt F) ((c : Thread nD τ).loc b))

/-- What the core owes the SparseCores while the region runs, its waits' pairs at or below level zero. -/
abbrev owing (c : Dev nD) : sProp 𝕄 := iprop(∃ W, ⌜(K (F := F)).WBelow (T c) W 0⌝ ∗ owes (T c : Thread nD τ) ((K (F := F)).Otc c 0) W)

/-- The core owes nothing at its own waits. -/
theorem Otc_none (c : Dev nD) : ∀ g, (K (F := F)).Otc (nD := nD) c 0 g none = 0 := by
  intro g
  by_contra h
  have h1 := SparseCore.Cfg.lev_of_Otc_pos (K := K (F := F)) (Nat.pos_of_ne_zero h)
  rw [SparseCore.Cfg.lev_none] at h1
  exact absurd h1 (by omega)

set_option backward.isDefEq.respectTransparency.types false in
/-- The region over the thread state: every unscoped buffer at `Vc`, entered, and at `Vp`, left. -/
def reg (hout : ∀ c, Vp c main_v1 = result Vc c) (hne : ∀ c (b : Ref sig .tc), b ≠ main_v1 → Vp c b = Vc c b) :
    Pipeline.RegionSeg (pcfgs (F := F)) adm (pdats Vc) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation Vc c).loose
  hwaits c := Pipeline.cellsWaits_intro _ _ _ _ _ fun w s t => (K (F := F)).mayWait_none _ (Otc_none c)
  pre c := iprop(unscopedBufs c (Vc c) ∗ owing c)
  post c := iprop(unscopedBufs c (Vp c) ∗ owing c)
  X _ := BI.emp
  Y _ := BI.emp
  Z c := iprop(Pipeline.unscopedRest (Ix := HIx 1) (Name := ℕ) (U := UU) (Lvl := ℕ) spec0 c (Vc c))
  hentry c := by
    rw [Pipeline.ownSems0_none]
    have hsplit := Pipeline.arrays_of_unscopedBufs (p := 0) (pcfgs (F := F)) adm (pdats Vc) launch0.win launch0.arr_whole c
      ((pdats Vc 0 c).share_full fun _ => rfl) (Vc c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats Vc 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats Vc 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats Vc) ((pdats Vc 0 c).share_full fun _ => rfl) (Vc c) (Vp c) ((pdats Vc 0 c).arrAt · cfg0.N)
      (fun w => by
        fin_cases w
        · exact ((pdats Vc 0 c).arrAt_in 0 rfl _).trans (hne c main_v0 (by decide)).symm
        · exact (final_o Vc c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact le_rfl
    · iexact HO

end Cert.ClampedIdeal.Own

end
-- ==== Proof.ClampedIdealRun.lean ====
/-
  The kernel's whole program: the largest absolute value on the TensorCore, the bin width, the SparseCores' partial counts, and the
  two results from them. `run_main` states that every execution terminates without a fault, that the argument ends unchanged, that
  every semaphore counter reads zero again, and what the two results hold.
-/
module

public import proofs.«01_k».proof.Proof.ClampedIdealAbsmax
public import Idealize.ShloMosaic.Lib.Pipeline.Frame

@[expose] public section

noncomputable section

namespace Cert.ClampedIdeal.Own

open Cert.ClampedIdeal Cert.ClampedIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.StableHlo (seq after held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (cellsGhost toksInit pin)

variable {F : FTy → Type} [FloatOps F]

local notation "𝕄" => MT nD τ sig (HIx 1) (Elt F) ℕ UU ℕ

/-! ## The host operations, and the arrays' contents between them -/

abbrev rf (b : Ref sig .tc) : DevRef τ sig := Proc.devRef .tc b

/-- The operation before the region. -/
abbrev opsA : List (HloOp τ sig (Elt F)) :=
  [StableHlo.reshape main_arg0 main_v0 (rfl : (.f32 : EltTy) = .f32) shapeCasts_S4x2048x4096_S8192x4096]

/-- The operations between the region and the SparseCore call. -/
abbrev opsB : List (HloOp τ sig (Elt F)) :=
  [StableHlo.reshape main_v1 main_v2 (rfl : (.f32 : EltTy) = .f32) shapeCasts_S1x1_S_,
   StableHlo.nullary main_cst (constant S_ .f32 0x45000000#32),
   StableHlo.binary main_v2 main_cst main_v3 (Host.divf : (⟨S_, .f32⟩ : BufTy).Contents (Elt F) → (⟨S_, .f32⟩ : BufTy).Contents (Elt F) → (⟨S_, .f32⟩ : BufTy).Contents (Elt F)),
   StableHlo.reshape main_arg0 main_v4 (rfl : (.f32 : EltTy) = .f32) shapeCasts_S4x2048x4096_S33554432,
   StableHlo.unary main_v3 main_v5 (broadcastInDim S16 ![] bcast_S_S16 : (⟨S_, .f32⟩ : BufTy).Contents (Elt F) → (⟨S16, .f32⟩ : BufTy).Contents (Elt F))]

/-- The operations after the SparseCore call. -/
abbrev opsC : List (HloOp τ sig (Elt F)) :=
  [StableHlo.nullary main_cst_0 (constant S_ .f32 0x00000000#32),
   StableHlo.binary main_v6 main_cst_0 main_v7 ((fun x v => Host.reduceAdd x v reducesTo_S32x2048_S2048_d0 h_S_) : (⟨S32x2048, .f32⟩ : BufTy).Contents (Elt F) → (⟨S_, .f32⟩ : BufTy).Contents (Elt F) → (⟨S2048, .f32⟩ : BufTy).Contents (Elt F)),
   StableHlo.nullary main_v8 (sitofp .f32 (iotaInDim S2049 32 0)),
   StableHlo.unary main_v3 main_v9 (broadcastInDim S2049 ![] bcast_S_S2049 : (⟨S_, .f32⟩ : BufTy).Contents (Elt F) → (⟨S2049, .f32⟩ : BufTy).Contents (Elt F)),
   StableHlo.binary main_v8 main_v9 main_v10 (mulf : (⟨S2049, .f32⟩ : BufTy).Contents (Elt F) → (⟨S2049, .f32⟩ : BufTy).Contents (Elt F) → (⟨S2049, .f32⟩ : BufTy).Contents (Elt F))]

/-- The program in order. -/
theorem main_eq (d : Dev nD) : main (F := F) d =
    (do seq opsA
        Prog.lift (.customCall (SparseCore.inner (Pipeline.entry 0)) ())
        seq opsB
        sc.run d 0
        seq opsC
        pure ⟨⟩) := rfl

open Idealize.ShloMosaic.StableHlo in
/-- Every operation's buffers are among the arrays the thread holds. -/
theorem subA : ∀ op ∈ opsA (F := F), op.bufs ⊆ Pipeline.ucRefs τ sig := fun op h =>
  Pipeline.sub_ucRefs op ((List.forall_iff_forall_mem.mp (show (opsA (F := F)).Forall fun op => op.bufs ⊆ StableHlo.tcRefs τ sig from reshape_bufs_sub ..)) op h)
open Idealize.ShloMosaic.StableHlo in
/-- Every operation's buffers are among the arrays the thread holds. -/
theorem subB : ∀ op ∈ opsB (F := F), op.bufs ⊆ Pipeline.ucRefs τ sig := fun op h =>
  Pipeline.sub_ucRefs op ((List.forall_iff_forall_mem.mp (show (opsB (F := F)).Forall fun op => op.bufs ⊆ StableHlo.tcRefs τ sig from
    ⟨reshape_bufs_sub .., nullary_bufs_sub .., binary_bufs_sub .., reshape_bufs_sub .., unary_bufs_sub ..⟩)) op h)
open Idealize.ShloMosaic.StableHlo in
/-- Every operation's buffers are among the arrays the thread holds. -/
theorem subC : ∀ op ∈ opsC (F := F), op.bufs ⊆ Pipeline.ucRefs τ sig := fun op h =>
  Pipeline.sub_ucRefs op ((List.forall_iff_forall_mem.mp (show (opsC (F := F)).Forall fun op => op.bufs ⊆ StableHlo.tcRefs τ sig from
    ⟨nullary_bufs_sub .., binary_bufs_sub .., nullary_bufs_sub .., unary_bufs_sub .., binary_bufs_sub ..⟩)) op h)

/-- Every operation determines its results. -/
theorem freshA : ∀ op ∈ opsA (F := F), op.fresh = ∅ := by intro _ h; (repeat (cases h with | head => rfl | tail _ h => ?_)); exact nomatch h
/-- Every operation determines its results. -/
theorem freshB : ∀ op ∈ opsB (F := F), op.fresh = ∅ := by intro _ h; (repeat (cases h with | head => rfl | tail _ h => ?_)); exact nomatch h
/-- Every operation determines its results. -/
theorem freshC : ∀ op ∈ opsC (F := F), op.fresh = ∅ := by intro _ h; (repeat (cases h with | head => rfl | tail _ h => ?_)); exact nomatch h

variable (m : (ℓ : Loc nD τ sig) → Buf (Elt F) ℓ) (ρ : Dev nD → PrngReg)

/-- The arrays at the launch; -/
def V0 (d : Dev nD) : Valuation τ sig (Elt F) := fun b => m (d, b)
/-- before the region; -/
def VA (d : Dev nD) : Valuation τ sig (Elt F) := after opsA (V0 m d)
/-- the same, core by core and array by array; -/
abbrev VAr (d : Dev nD) (b : Ref sig .tc) : Buf (Elt F) ((d : Thread nD τ).loc b) := VA m d (rf b)
/-- after the region; -/
def VB (d : Dev nD) : Valuation τ sig (Elt F) := Function.update (VA m d) (rf main_v1) (result (VAr m) d)
abbrev VBr (d : Dev nD) (b : Ref sig .tc) : Buf (Elt F) ((d : Thread nD τ).loc b) := VB m d (rf b)
/-- before the SparseCore call; -/
def VC (d : Dev nD) : Valuation τ sig (Elt F) := after opsB (VB m d)
/-- The flat input the call reads. -/
def Xd (d : Dev nD) : Vec F S33554432 .f32 := VC m d (rf main_v4)
/-- The bin width's sixteen words the call reads. -/
def Wd (d : Dev nD) : Vec F S16 .f32 := VC m d (rf main_v5)
/-- after the call; -/
def VD (d : Dev nD) : Valuation τ sig (Elt F) := Function.update (VC m d) (rf main_v6) (OUT (Xd m d) (Wd m d))
/-- at the end. -/
def VE (d : Dev nD) : Valuation τ sig (Elt F) := after opsC (VD m d)

/-- The region leaves its result in its array, -/
theorem VB_v1 (d : Dev nD) : VBr m d main_v1 = result (VAr m) d := Function.update_self _ _ _
/-- and every other array as it was. -/
theorem VB_ne (d : Dev nD) (b : Ref sig .tc) (h : b ≠ main_v1) : VBr m d b = VAr m d b :=
  Function.update_of_ne (fun e => h (Proc.devRef_injective _ e)) _ _
/-- The call leaves the partial counts in their array, -/
theorem VD_v6 (d : Dev nD) : VD m d (rf main_v6) = OUT (Xd m d) (Wd m d) := Function.update_self _ _ _
/-- and every other array as it was. -/
theorem VD_ne (d : Dev nD) (b : DevRef τ sig) (h : b ≠ rf main_v6) : VD m d b = VC m d b := Function.update_of_ne h _ _

/-- The region's input is the argument, reshaped to rows. -/
theorem VA_v0 (d : Dev nD) : VA m d (rf main_v0) = shapeCast S8192x4096 (m (d, rf main_arg0) : Vec F S4x2048x4096 .f32) shapeCasts_S4x2048x4096_S8192x4096 := by
  unfold VA; after_results_simp <;> rfl
/-- The argument is unchanged before the region. -/
theorem VA_arg0 (d : Dev nD) : VA m d (rf main_arg0) = m (d, rf main_arg0) := by
  unfold VA; after_results_simp <;> rfl
/-- The array of the partial counts is untouched before the region. -/
theorem VA_v6 (d : Dev nD) : VA m d (rf main_v6) = m (d, rf main_v6) := by
  unfold VA; after_results_simp <;> rfl

/-- The largest absolute value the region leaves. -/
def xmax (d : Dev nD) : F .f32 := chain (shapeCast S8192x4096 (m (d, rf main_arg0) : Vec F S4x2048x4096 .f32) shapeCasts_S4x2048x4096_S8192x4096) 15
/-- The bin width. -/
def width (d : Dev nD) : Vec F S_ .f32 := Host.divf (fun _ => xmax m d) (constant S_ .f32 0x45000000#32)

/-- The region's result is the largest absolute value. -/
theorem result_eq (d : Dev nD) : result (VAr m) d = (fun _ => xmax m d : Vec F S1x1 .f32) := by
  unfold result xmax; rw [← VA_v0]; rfl

/-- After the region its array holds the largest absolute value. -/
theorem VB_v1' (d : Dev nD) : VB m d (rf main_v1) = (fun _ => xmax m d : Vec F S1x1 .f32) := (VB_v1 m d).trans (result_eq m d)

/-- Before the call the width is computed, -/
theorem VC_v3 (d : Dev nD) : VC m d (rf main_v3) = width m d := by
  unfold VC; after_results_simp
  all_goals first
    | (rw [VB_v1']; rfl)
    | rfl
/-- broadcast to sixteen lanes, -/
theorem VC_v5 (d : Dev nD) : VC m d (rf main_v5) = broadcastInDim S16 ![] bcast_S_S16 (width m d) := by
  unfold VC; after_results_simp
  all_goals first
    | (rw [VB_v1']; rfl)
    | rfl
/-- and the argument reshaped to one row; -/
theorem VC_v4 (d : Dev nD) : VC m d (rf main_v4) = shapeCast S33554432 (m (d, rf main_arg0) : Vec F S4x2048x4096 .f32) shapeCasts_S4x2048x4096_S33554432 := by
  unfold VC; after_results_simp
  all_goals first
    | (rw [show VB m d (rf main_arg0) = m (d, rf main_arg0) from (VB_ne m d main_arg0 (by decide)).trans (VA_arg0 m d)]; rfl)
    | rfl
/-- the array of the partial counts is still untouched, -/
theorem VC_v6 (d : Dev nD) : VC m d (rf main_v6) = m (oLoc d) := by
  unfold VC; after_results_simp
  all_goals first
    | exact (VB_ne m d main_v6 (by decide)).trans (VA_v6 m d)
    | rfl
/-- and so is the argument. -/
theorem VC_arg0 (d : Dev nD) : VC m d (rf main_arg0) = m (d, rf main_arg0) := by
  unfold VC; after_results_simp
  all_goals first
    | exact (VB_ne m d main_arg0 (by decide)).trans (VA_arg0 m d)
    | rfl

/-- At the end the argument is unchanged, -/
theorem VE_arg0 (d : Dev nD) : VE m d (rf main_arg0) = m (d, rf main_arg0) := by
  unfold VE; after_results_simp
  all_goals first
    | exact (VD_ne m d _ (by decide)).trans (VC_arg0 m d)
    | rfl
/-- the first result is the sum of the partial counts, -/
theorem VE_v7 (d : Dev nD) : VE m d (rf main_v7)
    = Host.reduceAdd (OUT (Xd m d) (Wd m d)) (constant S_ .f32 0x00000000#32) reducesTo_S32x2048_S2048_d0 h_S_ := by
  unfold VE; after_results_simp
  all_goals first
    | (rw [VD_v6])
    | rfl
/-- and the second each edge's number times the width. -/
theorem VE_v10 (d : Dev nD) : VE m d (rf main_v10)
    = mulf (sitofp .f32 (iotaInDim S2049 32 0)) (broadcastInDim S2049 ![] bcast_S_S2049 (width m d)) := by
  unfold VE; after_results_simp
  all_goals first
    | (rw [(VD_ne m d (rf main_v3) (by decide)).trans (VC_v3 m d)])
    | rfl

/-! ## The tasks -/

abbrev Pm : (K (F := F)).Pay (nD := nD) (Val := Elt F) (Name := ℕ) (U := UU) := P (Xd m) (Wd m) m

/-- The coordinates of the task on (SparseCore `c`, tile `s`). -/
def coordsV (c : Fin (grid1.bound 0)) (s : Fin (grid1.bound 1)) : grid1.Coords :=
  fun | 0 => c | 1 => s | ⟨_ + 2, h⟩ => absurd h (Nat.not_lt.2 (Nat.le_add_left _ _))

/-- The body every tile runs. -/
theorem defs₀_vector (c : Fin τ.nSC) (s : Fin τ.nSub) :
    defs₀ (F := F) (.scVector c s) 1 ()
      = SparseCore.onTile hcore1 hsub1 (fun c s => cc1_body (coordsV c s)
          (Memref.whole main_v4_scv) (Memref.isWhole_whole _) (Memref.whole main_v5_scv) (Memref.isWhole_whole _) (Memref.whole main_v6_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) cc1_scoped0 cc1_scoped1 cc1_scoped2) ⟨⟩ c s := rfl

/-- Every tile keeps the call's contract. -/
theorem tileObl (hok : ∀ d, ∀ v : Vec F S16 .f32, k1_chk1 (k1_pay3 (Wd m d) v)) (hF : (K (F := F)).Facts) :
    (K (F := F)).TileObl (D (F := F)) 𝒱 (Pm m) v₀ 0 := by
  intro d c i O W hO _ _
  simp only [show (Pm m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (Xd m) (Wd m) m (hok d) hF O W hO

/-- What the call hands a SparseCore is what its tiles are handed. -/
theorem vecSplit : (K (F := F)).VecSplit' (Pm m) 0 := by
  intro d c
  show (bigSep Finset.univ fun i : Fin ((K (F := F)).nSub 0) => inPts (Xd m) (Wd m) m d (tileNo (Fin.cast nCore_zero c) (Fin.cast nSub_zero i)))
    ⊢ |={Set.univ}=> iprop((bigSep Finset.univ fun i : Fin ((K (F := F)).nSub 0) => inPts (Xd m) (Wd m) m d (tileNo (Fin.cast nCore_zero c) (Fin.cast nSub_zero i)))
      ∗ ((bigSep Finset.univ fun i : Fin ((K (F := F)).nSub 0) => outPts (Xd m) (Wd m) d (tileNo (Fin.cast nCore_zero c) (Fin.cast nSub_zero i)))
          -∗ (bigSep Finset.univ fun i : Fin ((K (F := F)).nSub 0) => outPts (Xd m) (Wd m) d (tileNo (Fin.cast nCore_zero c) (Fin.cast nSub_zero i)))))
  iintro H; imodintro
  isplitl [H]; · iexact H
  iintro H; iexact H

/-! ## The partial counts' rows split and join -/

/-- A task's part of the partial counts is its row. -/
theorem rowSet_eq (i : Fin 32) : rowSet i = (row i).set := by
  show ((View.whole (main_v6_scv : Ref sig .scVector)).slice (row i)).set = _
  rw [View.set_slice]; exact Finset.map_refl
/-- Different rows are disjoint. -/
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
/-- The rows are the whole array. -/
theorem rows_cover : (Finset.univ : Finset (Fin 32)).biUnion rowSet = Finset.univ :=
  (Finset.biUnion_congr rfl fun i _ => rowSet_eq i).trans (Rect.biUnion_part hdiv)

/-- Holding the partial counts is holding each row. -/
theorem oPts_rows (d : Dev nD) (f : Buf (Elt F) (oLoc d)) :
    (oLoc d ↦{fullShare} f : sProp 𝕄) = bigSep Finset.univ fun i : Fin 32 => oLoc d ↦[rowSet i]{fullShare} f := by
  rw [← pointsTo_biUnion Finset.univ (ℓ := oLoc d) rowSet rows_disjoint, rows_cover]; try rfl
/-- Holding the input is holding a read share of it for each task. -/
theorem xPts_deal (d : Dev nD) (f : Buf (Elt F) (xLoc d)) :
    (xLoc d ↦{fullShare} f : sProp 𝕄) = bigSep Finset.univ fun i : Fin 32 => xLoc d ↦{rq i} f :=
  Transfers.pointsTo_deal Finset.univ Finset.univ_nonempty fullShare
/-- Holding the width is holding a read share of it for each task. -/
theorem wPts_deal (d : Dev nD) (f : Buf (Elt F) (wLoc d)) :
    (wLoc d ↦{fullShare} f : sProp 𝕄) = bigSep Finset.univ fun i : Fin 32 => wLoc d ↦{rq i} f :=
  Transfers.pointsTo_deal Finset.univ Finset.univ_nonempty fullShare

/-- Two SparseCores' sixteen tasks each are the thirty-two tasks. -/
theorem bigSep_tasks (Φ : Fin 32 → sProp 𝕄) :
    (bigSep Finset.univ fun c : Fin ((K (F := F)).nCore 0) => bigSep Finset.univ fun i : Fin ((K (F := F)).nSub 0) =>
      Φ (tileNo (Fin.cast nCore_zero c) (Fin.cast nSub_zero i))) = bigSep Finset.univ Φ := by
  rw [bigSep_univ_equiv (finProdFinEquiv : Fin 2 × Fin 16 ≃ Fin 32) Φ, bigSep_univ_prod]
  show (bigSep (Finset.univ : Finset (Fin 2)) fun c => bigSep (Finset.univ : Finset (Fin 16)) fun i => Φ (tileNo c i)) = _
  exact bigSep_congr fun c _ => bigSep_congr fun i _ => congrArg Φ (Fin.ext (show 16 * c.val + i.val = i.val + 16 * c.val by omega))

/-- What the call takes: the input, the width and the partial counts. -/
theorem st0_eq (d : Dev nD) :
    (bigSep Finset.univ fun c : Fin ((K (F := F)).nCore 0) => (Pm m).st 0 d c)
      = iprop((xLoc d ↦{fullShare} Xd m d) ∗ (wLoc d ↦{fullShare} Wd m d) ∗ (oLoc d ↦{fullShare} m (oLoc d))) := by
  rw [xPts_deal, wPts_deal, oPts_rows, ← bigSep_sep', ← bigSep_sep']
  exact bigSep_tasks (fun t => inPts (Xd m) (Wd m) m d t)
/-- What it gives back: the same, the partial counts computed. -/
theorem dn0_eq (d : Dev nD) :
    (bigSep Finset.univ fun c : Fin ((K (F := F)).nCore 0) => (Pm m).dn 0 d c)
      = iprop((xLoc d ↦{fullShare} Xd m d) ∗ (wLoc d ↦{fullShare} Wd m d) ∗ (oLoc d ↦{fullShare} OUT (Xd m d) (Wd m d))) := by
  rw [xPts_deal, wPts_deal, oPts_rows, ← bigSep_sep', ← bigSep_sep']
  exact bigSep_tasks (fun t => outPts (Xd m) (Wd m) d t)

/-! ## The launch element: the handshakes' rounds and the staging cells' -/

/-- The staging cells' rounds, in the program's algebra. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-- The launch's staging part. -/
def uP : UP := initOf (Pipeline.cells (pin (pcfgs (F := F)) adm) cellOf_inj) (Pipeline.launchToks (pin (pcfgs (F := F)) adm) cellOf_inj)
/-- The launch element. -/
def u₀ : UU := (initOf (K (F := F)).hsCells (K (F := F)).hsToks, (uP (F := F), 1))

/-- What the launch deals each TensorCore for the region. -/
abbrev G (d : Dev nD) : sProp 𝕄 := iprop(cellsGhost (pin (pcfgs (F := F)) adm) EP 0 d ∗ toksInit (pin (pcfgs (F := F)) adm) EP 0 d)

/-- Nothing, many times, is nothing. -/
theorem bigSep_emp' {I : Type} (s : Finset I) : (bigSep s fun _ => iprop(emp)) = (iprop(emp) : sProp 𝕄) := bigSep_emp_const s
/-- A conjunction over one index is its one member. -/
theorem bigSep_one (Φ : Fin 1 → sProp 𝕄) : bigSep Finset.univ Φ = Φ 0 := bigSep_univ_of_subsingleton 0

/-- The launch element gives the handshakes their rounds and each TensorCore what its region needs. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair (initOf (K (F := F)).hsCells (K (F := F)).hsToks) ((uP (F := F), 1) : UP × Counters)) $$ Hu
  icases H with ⟨HH, HR⟩
  ihave H := (own_pair_emb (embR : Emb (UP × Counters) 𝕄) (uP (F := F)) (1 : Counters)) $$ HR
  icases H with ⟨HP0, -⟩
  ihave HP := (show (BI.own (((Emb.inl : Emb UP (UP × Counters)).trans (embR : Emb (UP × Counters) 𝕄)) (uP (F := F))) : sProp 𝕄)
    ⊢ BI.own (EP (initOf (Pipeline.cells (pin (pcfgs (F := F)) adm) cellOf_inj) (Pipeline.launchToks (pin (pcfgs (F := F)) adm) cellOf_inj))) from Entails.rfl) $$ HP0
  imod (Pipeline.fund_ghost (pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_congr fun c _ => bigSep_one (fun p : Fin 1 => cellsGhost (pin (pcfgs (F := F)) adm) EP p c))) $$ Hg
    iapply (Entails.of_eq (bigSep_congr fun c _ => bigSep_one (fun p : Fin 1 => toksInit (pin (pcfgs (F := F)) adm) EP p c))) $$ Ht
  rw [show (bigSep Finset.univ fun thr : Thread nD τ => bigSep Finset.univ fun q : Fin 1 => (Pm m).x q thr) = bigSep Finset.univ fun _ => iprop(emp) from
    bigSep_congr fun _ _ => bigSep_univ_of_subsingleton (0 : Fin 1), bigSep_emp']
  iempintro

/-! ## The region under the whole program's table -/

/-- What is asked of the elements of an empty option holds. -/
theorem none_all {α : Type} (p : α → Prop) : ∀ u ∈ (none : Option α), p u := fun u hu => (Option.not_mem_none u hu).elim

abbrev regm : Pipeline.RegionSeg (pcfgs (F := F)) adm (pdats (VAr m)) none defs₀ 𝒱₀ (K (F := F)).L (K (F := F)).lev 0 :=
  reg (VAr m) (VBr m) (VB_v1 m) (fun c b h => VB_ne m c b h)

/-- The region's call in the table it was made for. -/
theorem wp_region₀ (d : Dev nD) (Φ : PUnit → sProp 𝕄) :
    iprop((iprop(boundary (d.tc : Thread nD τ) ∗ (regm m).post d) -∗ wp frame (wpE (D (F := F)) 𝒱 (d.tc : Thread nD τ) none) Set.univ (.ret ⟨⟩) Φ)
        ∗ boundary (d.tc : Thread nD τ) ∗ (regm m).pre d ∗ levAts (K (F := F)).L (K (F := F)).lev ∗ cellsGhost (pin (pcfgs (F := F)) adm) EP 0 d ∗ toksInit (pin (pcfgs (F := F)) adm) EP 0 d)
      ⊢ wp frame (wpE (D (F := F)) 𝒱 (d.tc : Thread nD τ) none) Set.univ (.op (.customCall (Pipeline.entry 0) ()) .ret) Φ :=
  Pipeline.RegionSeg.wp (pcfgs (F := F)) adm (pdats (VAr m)) none cellOf_inj EP defs₀ 𝒱₀ (K (F := F)).L (K (F := F)).lev
    (regm m) d none (none_all _) .ret Φ

abbrev callR : Prog (TpuEff nD τ sig (Elt F) (ΛP (F := F)) .tc) PUnit := .op (.customCall (Pipeline.entry 0) ()) .ret

/-- A run of the region's call is one in the program's own table. -/
theorem lift_region (d : Dev nD) (Φ : PUnit → sProp 𝕄) :
    wp frame (wpE (D (F := F)) 𝒱 (d.tc : Thread nD τ) none) Set.univ (callR (F := F)) Φ
      ⊢ wp frame (wpE ((K (F := F)).defs (D (F := F))) 𝒱 (d.tc : Thread nD τ) none) Set.univ
        (Prog.lift (.customCall (SparseCore.inner (Pipeline.entry 0)) ()) : Prog (TpuEff nD τ sig (Elt F) (SparseCore.Sig (ΛP (F := F)) 1) .tc) PUnit) Φ :=
  (K (F := F)).wp_liftProg (D (F := F)) 𝒱 (d.tc : Thread nD τ) Set.univ none (callR (F := F)) Φ

/-- What @main holds at the call is what the region's rule asks for. -/
theorem pre_region (d : Dev nD) (Φ : PUnit → sProp 𝕄) :
    iprop((iprop(boundary (d.tc : Thread nD τ) ∗ unscopedBufs d (VBr m d) ∗ owing (F := F) d) -∗ Φ ⟨⟩)
        ∗ boundary (d.tc : Thread nD τ) ∗ (unscopedBufs d (VAr m d) ∗ owing (F := F) d) ∗ levAts (K (F := F)).L (K (F := F)).lev ∗ G (F := F) d)
      ⊢ iprop((iprop(boundary (d.tc : Thread nD τ) ∗ (regm m).post d) -∗ wp frame (wpE (D (F := F)) 𝒱 (d.tc : Thread nD τ) none) Set.univ (.ret ⟨⟩) Φ)
        ∗ boundary (d.tc : Thread nD τ) ∗ (regm m).pre d ∗ levAts (K (F := F)).L (K (F := F)).lev ∗ cellsGhost (pin (pcfgs (F := F)) adm) EP 0 d ∗ toksInit (pin (pcfgs (F := F)) adm) EP 0 d) := by
  show _ ⊢ iprop((iprop(boundary (d.tc : Thread nD τ) ∗ (unscopedBufs d (VBr m d) ∗ owing (F := F) d)) -∗ wp frame (wpE (D (F := F)) 𝒱 (d.tc : Thread nD τ) none) Set.univ (.ret ⟨⟩) Φ)
        ∗ boundary (d.tc : Thread nD τ) ∗ (unscopedBufs d (VAr m d) ∗ owing (F := F) d) ∗ levAts (K (F := F)).L (K (F := F)).lev ∗ cellsGhost (pin (pcfgs (F := F)) adm) EP 0 d ∗ toksInit (pin (pcfgs (F := F)) adm) EP 0 d)
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

/-- The region's call in the program's own table: from the arrays as they are before it to the arrays as they are after it. -/
theorem wp_region (d : Dev nD) (Φ : PUnit → sProp 𝕄) :
    iprop((iprop(boundary (d.tc : Thread nD τ) ∗ unscopedBufs d (VBr m d) ∗ owing (F := F) d) -∗ Φ ⟨⟩)
        ∗ boundary (d.tc : Thread nD τ) ∗ (unscopedBufs d (VAr m d) ∗ owing (F := F) d) ∗ levAts (K (F := F)).L (K (F := F)).lev ∗ G (F := F) d)
      ⊢ wp frame (wpE ((K (F := F)).defs (D (F := F))) 𝒱 (d.tc : Thread nD τ) none) Set.univ
        (Prog.lift (.customCall (SparseCore.inner (Pipeline.entry 0)) ()) : Prog (TpuEff nD τ sig (Elt F) (SparseCore.Sig (ΛP (F := F)) 1) .tc) PUnit) Φ :=
  (pre_region m d Φ).trans ((wp_region₀ m d Φ).trans (lift_region d Φ))

/-! ## @main on the TensorCore -/

/-- What the thread owes the SparseCores, taken out of its state before the call and put back. -/
theorem tcSt_owing (d : Dev nD) : ((K (F := F)).tcSt EH d 0 : sProp 𝕄) ⊢ iprop(owing (F := F) d ∗ (owing (F := F) d -∗ (K (F := F)).tcSt EH d 0)) := by
  unfold SparseCore.Cfg.tcSt
  rw [show 8 * SparseCore.Cfg.Blocks.fst 1 1 0 = 0 from rfl]
  iintro ⟨HO, Hr⟩
  isplitl [HO]; · iexact HO
  iintro HO
  isplitl [HO]; · iexact HO
  iexact Hr

/-- The three arrays the call takes. -/
abbrev S3 : Finset (DevRef τ sig) := {rf main_v4, rf main_v5, rf main_v6}
/-- They are arrays that @main holds. -/
theorem S3_sub : S3 ⊆ Pipeline.ucRefs τ sig := fun b hb => by
  simp only [S3, Finset.mem_insert, Finset.mem_singleton] at hb
  rcases hb with rfl | rfl | rfl <;> exact Finset.mem_filter.mpr ⟨StableHlo.devRef_mem_tcRefs _, by decide⟩
/-- Holding the three is holding each. -/
theorem held_S3 (d : Dev nD) (W : Valuation τ sig (Elt F)) :
    (held (d.tc : Thread nD τ) S3 W : sProp 𝕄) = iprop((xLoc d ↦{fullShare} W (rf main_v4)) ∗ (wLoc d ↦{fullShare} W (rf main_v5)) ∗ (oLoc d ↦{fullShare} W (rf main_v6))) := by
  unfold held S3
  rw [SparseCore.bigSep_insert' (by decide), SparseCore.bigSep_insert' (by decide), bigSep_singleton]

/-- The arrays before the call: the three and the others. -/
theorem held_VC (d : Dev nD) : (held (d.tc : Thread nD τ) (Pipeline.ucRefs τ sig) (VC m d) : sProp 𝕄)
    = iprop(((xLoc d ↦{fullShare} Xd m d) ∗ (wLoc d ↦{fullShare} Wd m d) ∗ (oLoc d ↦{fullShare} m (oLoc d)))
      ∗ held (d.tc : Thread nD τ) (Pipeline.ucRefs τ sig \ S3) (VC m d)) := by
  rw [StableHlo.held_sub_split _ S3_sub, held_S3, VC_v6]; rfl
/-- The arrays after the call: the three and the others, which it leaves. -/
theorem held_VD (d : Dev nD) : (held (d.tc : Thread nD τ) (Pipeline.ucRefs τ sig) (VD m d) : sProp 𝕄)
    = iprop(((xLoc d ↦{fullShare} Xd m d) ∗ (wLoc d ↦{fullShare} Wd m d) ∗ (oLoc d ↦{fullShare} OUT (Xd m d) (Wd m d)))
      ∗ held (d.tc : Thread nD τ) (Pipeline.ucRefs τ sig \ S3) (VC m d)) := by
  rw [StableHlo.held_sub_split _ S3_sub, held_S3, VD_v6, VD_ne m d (rf main_v4) (by decide), VD_ne m d (rf main_v5) (by decide),
    StableHlo.held_congr (d.tc : Thread nD τ) (S := Pipeline.ucRefs τ sig \ S3) (V := VD m d) (V' := VC m d) fun b hb => VD_ne m d b fun h => (Finset.mem_sdiff.mp hb).2 (by rw [h]; decide)]
  rfl

/-- The argument and the two results. -/
abbrev S2 : Finset (DevRef τ sig) := {rf main_arg0, rf main_v7, rf main_v10}
/-- They are arrays that @main holds. -/
theorem S2_sub : S2 ⊆ Pipeline.ucRefs τ sig := fun b hb => by
  simp only [S2, Finset.mem_insert, Finset.mem_singleton] at hb
  rcases hb with rfl | rfl | rfl <;> exact Finset.mem_filter.mpr ⟨StableHlo.devRef_mem_tcRefs _, by decide⟩

abbrev aLoc (d : Dev nD) : Loc nD τ sig := (d.tc : Thread nD τ).loc main_arg0
abbrev hLoc (d : Dev nD) : Loc nD τ sig := (d.tc : Thread nD τ).loc main_v7
abbrev eLoc (d : Dev nD) : Loc nD τ sig := (d.tc : Thread nD τ).loc main_v10

/-- What @main leaves the claim: the argument and the two results at their final contents. -/
abbrev FIN (d : Dev nD) : sProp 𝕄 :=
  iprop((aLoc d ↦{fullShare} VE m d (rf main_arg0)) ∗ (hLoc d ↦{fullShare} VE m d (rf main_v7)) ∗ (eLoc d ↦{fullShare} VE m d (rf main_v10)))

/-- The arrays at the end: the argument, the two results and the others. -/
theorem held_VE (d : Dev nD) : (held (d.tc : Thread nD τ) (Pipeline.ucRefs τ sig) (VE m d) : sProp 𝕄)
    = iprop(FIN m d ∗ held (d.tc : Thread nD τ) (Pipeline.ucRefs τ sig \ S2) (VE m d)) := by
  rw [StableHlo.held_sub_split _ S2_sub]
  congr 1
  unfold held S2
  rw [SparseCore.bigSep_insert' (by decide), SparseCore.bigSep_insert' (by decide), bigSep_singleton]

/-- A device's arrays at the start, as the host operations' rule takes them; -/
theorem unscoped_V0 (d : Dev nD) : (unscopedBufs d (fun b => m ((d.tc : Thread nD τ).loc b)) : sProp 𝕄) = held (d.tc : Thread nD τ) (Pipeline.ucRefs τ sig) (V0 m d) :=
  Pipeline.unscopedBufs_held d (V0 m d)
/-- those before the region; -/
theorem unscoped_VA (d : Dev nD) : (unscopedBufs d (VAr m d) : sProp 𝕄) = held (d.tc : Thread nD τ) (Pipeline.ucRefs τ sig) (VA m d) :=
  Pipeline.unscopedBufs_held d (VA m d)
/-- and those after it. -/
theorem unscoped_VB (d : Dev nD) : (unscopedBufs d (VBr m d) : sProp 𝕄) = held (d.tc : Thread nD τ) (Pipeline.ucRefs τ sig) (VB m d) :=
  Pipeline.unscopedBufs_held d (VB m d)

/-- @main on device `d`'s TensorCore: the operations, the region and the call in order. -/
theorem hmain (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) (Pipeline.ucRefs τ sig) (V0 m d) from unscoped_V0 m d]
  iintro ⟨#Hctx, Hst, ⟨Hb, Hheld, Hts, -⟩, HG⟩
  iapply (StableHlo.wp_seq 𝒱 none Set.univ d (Pipeline.ucRefs τ sig) _ opsA subA freshA (V0 m d)) $$ [Hb Hheld]
  · isplitl [Hb]; · iexact Hb
    iexact Hheld
  iintro ⟨Hb, Hheld⟩
  rw [wp_bind]
  ihave HO := (tcSt_owing d) $$ Hst
  icases HO with ⟨HO, Hst⟩
  ihave Hlev := (SparseCore.Cfg.ctx_levAts κ) $$ Hctx
  iapply (wp_region m d) $$ [-]
  isplitr [Hb Hheld HO Hlev HG]
  · iintro ⟨Hb, Hub, HO⟩
    ihave Hst := Hst $$ HO
    ihave Hheld := (Entails.of_eq (unscoped_VB m d)) $$ Hub
    iapply (StableHlo.wp_seq 𝒱 none Set.univ d (Pipeline.ucRefs τ sig) _ opsB subB freshB (VB m d)) $$ [Hb Hheld]
    · isplitl [Hb]; · iexact Hb
      iexact Hheld
    iintro ⟨Hb, Hheld⟩
    ihave Hh := (show (held (d.tc : Thread nD τ) (Pipeline.ucRefs τ sig) (after opsB (VB m d)) : sProp 𝕄) ⊢ _ from Entails.of_eq (held_VC m d)) $$ Hheld
    icases Hh with ⟨H3, Hrest⟩
    rw [wp_bind]
    iapply ((K (F := F)).wp_run (D (F := F)) 𝒱 (EH := EH) (P := Pm m) κ d 0) $$ [-]
    isplitr; · iexact Hctx
    isplitl [Hst]; · iexact Hst
    isplitl [H3]
    · rw [st0_eq]; iexact H3
    iintro ⟨Hst, Hdn⟩
    ihave H3 := (Entails.of_eq (dn0_eq m d)) $$ Hdn
    iapply (StableHlo.wp_seq 𝒱 none Set.univ d (Pipeline.ucRefs τ sig) _ opsC subC freshC (VD m d)) $$ [Hb H3 Hrest]
    · isplitl [Hb]; · iexact Hb
      iapply (Entails.of_eq (held_VD m d).symm)
      isplitl [H3]; · iexact H3
      iexact Hrest
    iintro ⟨Hb, Hheld⟩
    ihave Hh := (show (held (d.tc : Thread nD τ) (Pipeline.ucRefs τ sig) (after opsC (VD m d)) : sProp 𝕄) ⊢ _ from Entails.of_eq (held_VE m d)) $$ Hheld
    icases Hh with ⟨HF, -⟩
    rw [wp_pure]; imodintro
    isplitl [Hst]; · iexact Hst
    isplitl [HF]; · iexact HF
    isplitl [Hb]; · iexact Hb
    iexact Hts
  isplitl [Hb]; · iexact Hb
  isplitl [Hheld HO]
  · isplitl [Hheld]
    · iapply (Entails.of_eq (unscoped_VA m d).symm); iexact Hheld
    iexact HO
  isplitl [Hlev]; · iexact Hlev
  iexact HG

/-- What the final memory holds on device `d`. -/
def fq (d : Dev nD) (s' : Phys nD τ sig (Elt F)) : Prop :=
  s'.mem.mem (aLoc d) = VE m d (rf main_arg0) ∧ s'.mem.mem (hLoc d) = VE m d (rf main_v7) ∧ s'.mem.mem (eLoc d) = VE m d (rf main_v10)

/-- Held contents are those of the final memory. -/
theorem hfin (d : Dev nD) (s' : Phys nD τ sig (Elt F)) : iprop(FIN m d ∗ SI s') ⊢ (⌜fq m d s'⌝ : sProp 𝕄) := by
  iintro ⟨⟨Ha, Hh, He⟩, HSI⟩
  ihave H := (persistent_entails_right (SI_pointsTo_agree (st := s') (ℓ := aLoc d) (I := Finset.univ) (q := fullShare) (f := VE m d (rf main_arg0)))) $$ [HSI Ha]
  · isplitl [HSI] <;> iassumption
  icases H with ⟨%ha, HSI, -⟩
  ihave H := (persistent_entails_right (SI_pointsTo_agree (st := s') (ℓ := hLoc d) (I := Finset.univ) (q := fullShare) (f := VE m d (rf main_v7)))) $$ [HSI Hh]
  · isplitl [HSI] <;> iassumption
  icases H with ⟨%hh, HSI, -⟩
  ihave H := (SI_pointsTo_agree (st := s') (ℓ := eLoc d) (I := Finset.univ) (q := fullShare) (f := VE m d (rf main_v10))) $$ [HSI He]
  · isplitl [HSI] <;> iassumption
  icases H with %he
  ipureintro
  exact ⟨funext fun i => ha i (Finset.mem_univ i), funext fun i => hh i (Finset.mem_univ i), funext fun i => he i (Finset.mem_univ i)⟩

/-! ## The program's run -/

/-- What a final state satisfies: the argument unchanged, the two results, every counter at zero. -/
def QC : PUnit × MemSt nD τ sig (Elt F) → Prop := fun r =>
  (∀ d : Dev nD, r.2.mem (aLoc d) = m (aLoc d)
    ∧ r.2.mem (hLoc d) = Host.reduceAdd (OUT (Xd m d) (Wd m d)) (constant S_ .f32 0x00000000#32) reducesTo_S32x2048_S2048_d0 h_S_
    ∧ r.2.mem (eLoc d) = mulf (sitofp .f32 (iotaInDim S2049 32 0)) (broadcastInDim S2049 ![] bcast_S_S2049 (width m d)))
  ∧ r.2.sem = fun _ => 0

/-- Every execution terminates without a fault and ends as `QC` says, when no counting step's index leaves the counters. -/
theorem run_main (hok : ∀ d, ∀ v : Vec F S16 .f32, k1_chk1 (k1_pay3 (Wd m d) v)) :
    θ_run (defs (F := F)) (threads (F := F)) ⟨m, fun _ => 0, ρ⟩ (QC m) := by
  haveI : ∀ e, Nonempty (Elt F e) := fun e => Elt.nonempty F e
  exact SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl m hok facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m)
    (fun _ h hz => ⟨fun d => ⟨(h d).1.trans (VE_arg0 m d), (h d).2.1.trans (VE_v7 m d), (h d).2.2.trans (VE_v10 m d)⟩, hz⟩)

end Cert.ClampedIdeal.Own

end
-- ==== Proof.ClampedIdealWords.lean ====
/-
  The word a lane counts at: its number times 2048 and its element's clamped quotient, whatever the float instance.
-/
module

public import proofs.«01_k».proof.Proof.ClampedIdealRun
public import proofs.«01_k».proof.Proof.Bins

@[expose] public section

noncomputable section

namespace Cert.ClampedIdeal.Own

open Cert.ClampedIdeal Cert.ClampedIdeal.Gen Cert.Bins
open Idealize.ShloMosaic

section Words

variable {F : FTy → Type} [FloatOps F] (W v : Vec F S16 .f32)

/-- The word of one lane. -/
theorem pay3_at (x : S16.Idx) :
    k1_pay3 W v x = IntOp.addi (IntOp.muli (BitVec.ofNat 32 (x 0).val) 2048#32)
      (clampW (FloatOps.fptosi 32 (FloatOps.divf (FloatOps.absf (v x)) (W x)))) := by
  have e : iota .scVector S16 32 [0] iota_S16_d0_w32_scVector x = BitVec.ofNat 32 (x 0).val :=
    congrArg (BitVec.ofNat 32) (Nat.add_eq_right.2 (Nat.zero_mul _))
  rw [← e]
  rfl

/-- It names a counter. -/
theorem chk_all : k1_chk1 (k1_pay3 W v) := by
  intro a x
  have ha : a = 0 := Subsingleton.elim (α := Fin 1) a 0
  subst ha
  have h1 : (x 0).val < 16 := (x 0).isLt
  have h := lane_index (x 0).val h1 (FloatOps.fptosi 32 (FloatOps.divf (FloatOps.absf (v x)) (W x)))
  have h2 := clampW_lt (FloatOps.fptosi 32 (FloatOps.divf (FloatOps.absf (v x)) (W x)))
  rw [← pay3_at] at h
  show (k1_pay3 W v x).toNat < 32768
  omega

end Words

/-- Over the extended reals it is the bin of the lane's element at the width every lane holds. -/
theorem pay_bin (W : Vec Ideal S16 .f32) (w : EReal) (hW : ∀ x, (W x : EReal) = w) (v : Vec Ideal S16 .f32) (x : S16.Idx) :
    (k1_pay3 (F := Ideal) W v x).toNat = 2048 * (x 0).val + binOf w (v x) := by
  have h1 : (x 0).val < 16 := (x 0).isLt
  have h := lane_index (x 0).val h1 (FloatOps.fptosi (F := Ideal) 32 (FloatOps.divf (F := Ideal) (φ := .f32) (FloatOps.absf (v x)) (W x)))
  rw [← pay3_at] at h
  rw [h, hW]
  rfl

end Cert.ClampedIdeal.Own

end
-- ==== Proof.ClampedIdealValue.lean ====
/-
  What the kernel's two results are over the extended reals: every bin's counter is the number of elements whose bin it is, and the
  running maximum of the sixteen blocks is the largest absolute value of the input.
-/
module

public import proofs.«01_k».proof.Proof.ClampedIdealRun
public import proofs.«01_k».proof.Proof.Bins

@[expose] public section

noncomputable section

namespace Cert.ClampedIdeal.Own

open Cert.ClampedIdeal Cert.ClampedIdeal.Gen Cert.Bins
open Idealize.ShloMosaic Idealize.ShloMosaic.ValueIdx Idealize.ShloMosaic.Ideal

/-! ## The counts -/

section Counts

variable (X : Vec Ideal S33554432 .f32) (W : Vec Ideal S16 .f32) (w : EReal)
  (hpay : ∀ (v : Vec Ideal S16 .f32) (x : S16.Idx), (k1_pay3 (F := Ideal) W v x).toNat = 2048 * (x 0).val + binOf w (v x))

include hpay

/-- Every lane's index is inside the private rows. -/
theorem chk_of_pay (v : Vec Ideal S16 .f32) : k1_chk1 (k1_pay3 (F := Ideal) W v) := by
  intro a x
  have ha : a = 0 := Subsingleton.elim (α := Fin 1) a 0
  subst ha
  have h := hpay v x
  have h1 : (x 0).val < 16 := (x 0).isLt
  have h2 := binOf_lt w (v x)
  show (k1_pay3 (F := Ideal) W v x).toNat < 32768
  omega

/-- One counting step, read at a counter. -/
theorem histStep_at (g : Vec Ideal S32768 .f32) (v : Vec Ideal S16 .f32) (j : S32768.Idx) :
    (histStep W g v j : EReal) = g j + ∑ l : Fin 16, if (j 0).val = 2048 * l.val + binOf w (v (Shape.ofLane (d := ![16]) l)) then (1 : EReal) else 0 := by
  unfold histStep
  rw [dif_pos (chk_of_pay W w hpay v)]
  refine (storeIdx_add g (k1_pay3 (F := Ideal) W v) (k1_pay1 (F := Ideal)) (fun x => ofBits_one_f32) _ j).trans ?_
  congr 1
  refine Finset.sum_congr rfl fun l _ => ?_
  rw [hpay]
  rfl

/-- The counters after `n` steps. -/
theorem histN_at (b n : ℕ) (j : S32768.Idx) :
    (histN X W b n j : EReal) = ∑ k ∈ Finset.range n, ∑ l ∈ Finset.range 16,
      if (j 0).val = 2048 * l + binOf w (at1 X (b + 16 * k + l)) then (1 : EReal) else 0 := by
  induction n with
  | zero =>
    exact (Ideal.ofBits_zero_f32).trans (by rw [Finset.range_zero, Finset.sum_empty])
  | succ n ih =>
    rw [Finset.sum_range_succ, ← ih]
    refine (histStep_at W w hpay (histN X W b n) (lanes X (b + 16 * n)) j).trans ?_
    refine congrArg (fun t : EReal => (histN X W b n j : EReal) + t) ?_
    exact Fin.sum_univ_eq_sum_range (fun l => if (j 0).val = 2048 * l + binOf w (at1 X (b + 16 * n + l)) then (1 : EReal) else 0) 16

/-- One private row's counter for the bin `c`. -/
theorem at2_histN (b n r c : ℕ) (hr : r < 16) (hc : c < 2048) :
    (at2 (histN X W b n) (2048 * r + c) : EReal) = ∑ k ∈ Finset.range n, ∑ l ∈ Finset.range 16,
      if 2048 * r + c = 2048 * l + binOf w (at1 X (b + 16 * k + l)) then (1 : EReal) else 0 := by
  unfold at2
  rw [histN_at X W w hpay]
  have e : ∀ (n : ℕ) (hn : n % 32768 < 32768), ((Shape.ofLane (d := ![32768]) (⟨n % 32768, hn⟩ : Fin 32768)) 0).val = n % 32768 := fun _ _ => rfl
  have : (2048 * r + c) % 32768 = 2048 * r + c := Nat.mod_eq_of_lt (by omega)
  refine Finset.sum_congr rfl fun k _ => Finset.sum_congr rfl fun l _ => ?_
  refine if_congr ?_ rfl rfl
  rw [e, this]

omit hpay in
/-- The sum of the first rows, as a sum. -/
theorem laneSum_eq (g : Vec Ideal S32768 .f32) (r c : ℕ) :
    (laneSum g r c : EReal) = ∑ i ∈ Finset.range (r + 1), (at2 g (2048 * i + c) : EReal) := by
  induction r with
  | zero => rw [Finset.sum_range_one, Nat.mul_zero, Nat.zero_add]; rfl
  | succ r ih =>
    rw [Finset.sum_range_succ, ← ih]
    show (laneSum g r c : EReal) + at2 g (2048 * r + c + 2048) = _
    rw [show 2048 * r + c + 2048 = 2048 * (r + 1) + c by ring]

/-- What a task leaves at a bin: the number of its elements in that bin. -/
theorem partial1_eq (t c : ℕ) (hc : c < 2048) :
    (partial1 X W t c : EReal) = ∑ p ∈ Finset.range 1048576, if binOf w (at1 X (1048576 * t + p)) = c then (1 : EReal) else 0 := by
  unfold partial1
  rw [laneSum_eq]
  have h1 : ∀ r ∈ Finset.range (15 + 1), (at2 (histN X W (1048576 * t) 65536) (2048 * r + c) : EReal)
      = ∑ k ∈ Finset.range 65536, ∑ l ∈ Finset.range 16,
        if 2048 * r + c = 2048 * l + binOf w (at1 X (1048576 * t + 16 * k + l)) then (1 : EReal) else 0 := fun r hr =>
    at2_histN X W w hpay _ _ r c (Finset.mem_range.1 hr) hc
  rw [Finset.sum_congr rfl h1, Finset.sum_comm]
  have h2 : ∀ k ∈ Finset.range 65536, (∑ r ∈ Finset.range (15 + 1), ∑ l ∈ Finset.range 16,
        if 2048 * r + c = 2048 * l + binOf w (at1 X (1048576 * t + 16 * k + l)) then (1 : EReal) else 0)
      = ∑ l ∈ Finset.range 16, if binOf w (at1 X (1048576 * t + (16 * k + l))) = c then (1 : EReal) else 0 := fun k _ => by
    refine (sum_lanes c hc (fun l => binOf w (at1 X (1048576 * t + 16 * k + l))) (fun l => binOf_lt _ _)).trans ?_
    exact Finset.sum_congr rfl fun l _ => by rw [Nat.add_assoc]
  rw [Finset.sum_congr rfl h2]
  exact sum_groups (fun p => if binOf w (at1 X (1048576 * t + p)) = c then (1 : EReal) else 0) 16 65536

/-- The first result at a bin: the number of all the elements in that bin. -/
theorem counts_eq (i : S2048.Idx) :
    (Host.reduceAdd (OUT X W) (constant S_ .f32 0x00000000#32) reducesTo_S32x2048_S2048_d0 h_S_ i : EReal)
      = ∑ p ∈ Finset.range 33554432, if binOf w (at1 X p) = (i 0).val then (1 : EReal) else 0 := by
  have hR : S32x2048.Reduces [0] S2048 := by decide
  rw [hostReduceAdd_apply, Ideal.hostReduceAdd_single reducesTo_S32x2048_S2048_d0 hR]
  have h0 : (constant S_ .f32 0x00000000#32 (Shape.Idx.first h_S_) : Ideal .f32) = (0 : EReal) := Ideal.ofBits_zero_f32
  rw [h0, zero_add]
  have hc : (i 0).val < 2048 := (i 0).isLt
  have h1 : ∀ k : Fin 32, (OUT X W (hR.lift i k) : EReal)
      = ∑ p ∈ Finset.range 1048576, if binOf w (at1 X (1048576 * k.val + p)) = (i 0).val then (1 : EReal) else 0 := fun k =>
    partial1_eq X W w hpay k.val (i 0).val hc
  refine (Finset.sum_congr rfl fun k _ => h1 k).trans ?_
  refine (Fin.sum_univ_eq_sum_range (fun k => ∑ p ∈ Finset.range 1048576, if binOf w (at1 X (1048576 * k + p)) = (i 0).val then (1 : EReal) else 0) 32).trans ?_
  exact sum_groups (fun p => if binOf w (at1 X p) = (i 0).val then (1 : EReal) else 0) 1048576 32

end Counts

/-! ## The largest absolute value -/

/-- The block's maximum lies below a bound exactly when every absolute value of the block does. -/
theorem pay1_le (v : Vec Ideal S512x4096 .f32) (z : EReal) :
    (k0_pay1 (F := Ideal) v : EReal) ≤ z ↔ ∀ j, max (v j : EReal) (-(v j)) ≤ z := by
  have hs : Subsingleton S1.Idx := ⟨fun a b => funext fun i => by
    have hi : i = 0 := Subsingleton.elim (α := Fin 1) i 0
    subst hi; exact Subsingleton.elim (α := Fin 1) _ _⟩
  exact extract_one _ shapeCasts_S1_S1x1x1 _ inpos_S1x1x1_p0_0_0 z _ fun j =>
    multi_abs_le v shapeCasts_S512x4096_S512x4096 shapeCasts_S512x4096_S1x512x4096 reduces_S1x512x4096_S1 _ _ j z

section Steps
variable {F : FTy → Type} [FloatOps F] (A : Vec F S8192x4096 .f32)

/-- The running maximum after the first point. -/
theorem chain_zero : chain A 0 = k0_pay1 (blkAt A 0) := rfl

/-- The running maximum after a further point. -/
theorem chain_succ (n : ℕ) : chain A (n + 1) = Scalar.maximumf (chain A n) (k0_pay1 (blkAt A (n + 1))) := rfl

end Steps

/-- The running maximum after `n` points lies below a bound exactly when every absolute value of the blocks so far does. -/
theorem chain_le (A : Vec Ideal S8192x4096 .f32) (n : ℕ) (z : EReal) :
    (chain A n : EReal) ≤ z ↔ ∀ k ≤ n, ∀ j, max (blkAt A k j : EReal) (-(blkAt A k j)) ≤ z := by
  induction n with
  | zero =>
    rw [chain_zero, pay1_le]
    exact ⟨fun h k hk => by rw [Nat.le_zero.1 hk]; exact h, fun h => h 0 le_rfl⟩
  | succ n ih =>
    rw [chain_succ, Ideal.scalar_maximumf_def, max_le_iff, ih, pay1_le]
    constructor
    · rintro ⟨h, h'⟩ k hk
      rcases Nat.le_succ_iff.1 hk with h2 | h2
      · exact h k h2
      · rw [h2]; exact h'
    · exact fun h => ⟨fun k hk => h k (Nat.le_succ_of_le hk), h (n + 1) le_rfl⟩

/-- After the sixteen points it bounds the whole array. -/
theorem chain15_le (A : Vec Ideal S8192x4096 .f32) (z : EReal) :
    (chain A 15 : EReal) ≤ z ↔ ∀ i, max (A i : EReal) (-(A i)) ≤ z := by
  rw [chain_le]
  constructor
  · intro h i
    have h0 : (i 0).val < 8192 := (i 0).isLt
    have h1 : (i 1).val < 4096 := (i 1).isLt
    have := h ((i 0).val / 512) (by omega) (fun a => match a with
      | ⟨0, _⟩ => (⟨(i 0).val % 512, Nat.mod_lt _ (by norm_num)⟩ : Fin 512)
      | ⟨1, _⟩ => (⟨(i 1).val, h1⟩ : Fin 4096))
    have e : blkAt A ((i 0).val / 512) (fun a => match a with
      | ⟨0, _⟩ => (⟨(i 0).val % 512, Nat.mod_lt _ (by norm_num)⟩ : Fin 512)
      | ⟨1, _⟩ => (⟨(i 1).val, h1⟩ : Fin 4096)) = A i := by
      unfold blkAt
      congr 1
      funext a
      match a with
      | ⟨0, _⟩ =>
        apply Fin.ext
        show (512 * ((i 0).val / 512) + (i 0).val % 512) % 8192 = (i 0).val
        omega
      | ⟨1, _⟩ => rfl
    rw [e] at this
    exact this
  · exact fun h k _ j => h _

variable (m : (ℓ : Loc nD τ sig) → Buf (Elt Ideal) ℓ)

/-- The argument's contents. -/
abbrev arg (d : Dev nD) : Vec Ideal S4x2048x4096 .f32 := m (d, rf main_arg0)

/-- The largest absolute value bounds the input. -/
theorem xmax_le (d : Dev nD) (z : EReal) :
    (xmax m d : EReal) ≤ z ↔ ∀ i, max (arg m d i : EReal) (-(arg m d i)) ≤ z :=
  (chain15_le _ z).trans (shapeCast_forall (arg m d) shapeCasts_S4x2048x4096_S8192x4096 (fun y : EReal => max y (-y) ≤ z))

end Cert.ClampedIdeal.Own

end
-- ==== Proof.HostBins.lean ====
/-
  The host's side of one histogram, at shapes of any size: the absolute values taken where some element is negative, the clamped bin of
  each, the scattered addition that counts them, and the evenly spaced edges.
-/
module

public import proofs.«01_k».proof.Proof.Bins
public import Idealize.ShloMosaic.Lib.Routing.OpsPair
public import Idealize.ShloMosaic.Lib.ValueIdxRank1

@[expose] public section

noncomputable section

namespace Cert.Bins

open Idealize.ShloMosaic Idealize.ShloMosaic.ValueIdx Idealize.ShloMosaic.Routing

/-- The scalar's shape. -/
abbrev SS : Shape := ⟨0, ![]⟩

/-- One dimension of `n`. -/
abbrev S1d (n : ℕ) : Shape := ⟨1, ![n]⟩

/-- The absolute values, taken only where the minimum is negative, are the absolute values. -/
theorem abs_select {s : Shape} {axes : List (Fin s.rank)} (X : FVec Ideal s .f32) (init zero : FVec Ideal SS .f32) (B : SS.BroadcastsInDim s ![])
    (h : s.ReducesTo axes SS) (hu : 0 < SS.numel) (hi : ∀ k, (init k : EReal) = ⊤) (hz : ∀ k, (zero k : EReal) = 0) (i : s.Idx) :
    (select (broadcastInDim s ![] B (cmpf .olt (Host.reduce (FloatOps.minimumf (F := Ideal) (φ := .f32)) X init h hu) zero)) (Host.absf X) X i : EReal)
      = max (X i : EReal) (-(X i)) := by
  haveI : Subsingleton SS.Idx := ⟨fun a b => funext fun i => i.elim0⟩
  have hsel : (select (broadcastInDim s ![] B (cmpf .olt (Host.reduce (FloatOps.minimumf (F := Ideal) (φ := .f32)) X init h hu) zero)) (Host.absf X) X i : EReal)
      = if BitVec.ofBool (decide ((Host.reduce (FloatOps.minimumf (F := Ideal) (φ := .f32)) X init h hu ix0 : EReal) < zero ix0)) = 1
        then max (X i : EReal) (-(X i)) else X i := by
    show (Scalar.select (broadcastInDim (s := SS) s ![] B (cmpf .olt (Host.reduce (FloatOps.minimumf (F := Ideal) (φ := .f32)) X init h hu) zero) i)
      (Host.absf X i) (X i) : EReal) = _
    rw [broadcastInDim_scalar_apply]
    rfl
  rw [hsel, hz]
  by_cases hn : (Host.reduce (FloatOps.minimumf (F := Ideal) (φ := .f32)) X init h hu ix0 : EReal) < 0
  · rw [if_pos]; rw [decide_eq_true hn]; rfl
  · rw [if_neg (by rw [decide_eq_false hn]; decide)]
    have h0 := (le_hostMin X init h hu hi ix0 0).1 (not_lt.1 hn) i
    rw [max_eq_left]
    exact (EReal.neg_le_neg_iff.2 h0).trans (by rw [neg_zero]; exact h0)

/-- The clamped bin of one value, as the host forms it. -/
theorem host_word {s : Shape} (A : FVec Ideal s .f32) (z W : FVec Ideal SS .f32) (hi lo : IVec SS 32) (B : SS.BroadcastsInDim s ![])
    (hz : ∀ k, (z k : EReal) = 0) (hhi : ∀ k, hi k = 2047#32) (hlo : ∀ k, lo k = 0#32) (i : s.Idx) :
    minsi (broadcastInDim s ![] B hi) (maxsi (broadcastInDim s ![] B lo)
        (fptosi 32 (Host.floor (Host.divf (subf A (broadcastInDim s ![] B z)) (broadcastInDim s ![] B W))))) i
      = clampW (Ideal.fptosi 32 (Ideal.div (A i) (W ix0))) := by
  show IntOp.minsi (broadcastInDim s ![] B hi i) (IntOp.maxsi (broadcastInDim s ![] B lo i)
    (Ideal.fptosi 32 (Ideal.liftRound Int.floor (Ideal.div ((A i : EReal) - (broadcastInDim s ![] B z i : EReal)) (broadcastInDim s ![] B W i))))) = _
  rw [broadcastInDim_scalar_apply, broadcastInDim_scalar_apply, broadcastInDim_scalar_apply, broadcastInDim_scalar_apply, hz, hhi, hlo, clampW_host,
    clampW_floor, sub_zero]

/-- A word below 2048 is not negative, so no wrapping changes it. -/
theorem wrap_clamp {s : Shape} (w : IVec s 32) (z c : IVec SS 32) (B : SS.BroadcastsInDim s ![]) (hz : ∀ k, z k = 0#32) (i : s.Idx)
    (h : (w i).toNat < 2048) :
    select (cmpi .slt w (broadcastInDim s ![] B z)) (addi w (broadcastInDim s ![] B c)) w i = w i := by
  show Scalar.select (IntOp.cmpi .slt (w i) (broadcastInDim s ![] B z i)) _ _ = _
  rw [broadcastInDim_scalar_apply, hz]
  exact wrap_of_lt _ _ (by omega)

/-- Update `i` of a scatter of `N` scalars into a vector of `M`, one index each, lands at `x` exactly when its index, read signed, is `x`. -/
theorem lands {M N : ℕ} (d : ScatterDims (S1d M) ⟨2, ![N, 1]⟩ (S1d N)) (hiw : d.insertedWindowDims = [0])
    (hsd : d.scatterDimsToOperandDims = [0]) (hivd : d.indexVectorDim = 1) (idx : IVec ⟨2, ![N, 1]⟩ 32) (i : Fin N) (x : Fin M) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hsi : d.siIdx (ix1 i) ⟨d.scatterDimsToOperandDims.idxOf 0, List.idxOf_lt_length_iff.2 hm⟩ = ix2 i (0 : Fin 1) := by
    funext b
    apply Fin.ext
    match b with
    | ⟨0, _⟩ =>
      unfold ScatterDims.siIdx
      rw [dif_neg (by rw [hivd]; exact Nat.zero_ne_one)]
      unfold ScatterDims.siCoord
      simp only [Fin.val_cast]
      have e : ∀ q : Fin 1, (ix1 i q).val = i.val := fun q => by
        obtain rfl : q = 0 := Subsingleton.elim _ _
        rfl
      exact e _
    | ⟨1, _⟩ =>
      unfold ScatterDims.siIdx
      rw [dif_pos (by rw [hivd])]
      show List.idxOf (0 : Fin 1) d.scatterDimsToOperandDims = 0
      rw [hsd]; simp
  have hstart : d.start (ix1 i) idx 0 = (idx (ix2 i (0 : Fin 1))).toInt := by
    unfold ScatterDims.start
    rw [dif_pos hm, hsi]
  refine (resultIdx?_ix1 d (ix1 i) idx x).trans ?_
  rw [hstart, hwin]
  simp

/-- The scattered addition of ones to zeros: at `x`, one for each word that is `x`. -/
theorem scatter_ones {M N : ℕ} (d : ScatterDims (S1d M) ⟨2, ![N, 1]⟩ (S1d N)) (hiw : d.insertedWindowDims = [0])
    (hsd : d.scatterDimsToOperandDims = [0]) (hivd : d.indexVectorDim = 1) (w : IVec (S1d N) 32) (B : (S1d N).BroadcastsInDim ⟨2, ![N, 1]⟩ ![0])
    (B0 : SS.BroadcastsInDim (S1d M) ![]) (B1 : SS.BroadcastsInDim (S1d N) ![]) (z o : FVec Ideal SS .f32) (hz : ∀ k, (z k : EReal) = 0)
    (ho : ∀ k, (o k : EReal) = 1) (hw : ∀ i, (w i).toNat < 2048) (x : (S1d M).Idx) :
    (Host.scatterAdd d (broadcastInDim (S1d M) ![] B0 z) (broadcastInDim ⟨2, ![N, 1]⟩ ![0] B w) (broadcastInDim (S1d N) ![] B1 o) x : EReal)
      = ∑ i : Fin N, if (w (ix1 i)).toNat = (x 0).val then (1 : EReal) else 0 := by
  show (broadcastInDim (S1d M) ![] B0 z x : EReal) + ∑ j ∈ Finset.univ.filter (fun j => d.resultIdx? j (broadcastInDim ⟨2, ![N, 1]⟩ ![0] B w) = some x),
    (broadcastInDim (S1d N) ![] B1 o j : EReal) = _
  obtain ⟨c, rfl⟩ : ∃ c : Fin M, x = ix1 c := ⟨x 0, eq_ix1 x⟩
  rw [broadcastInDim_scalar_apply, hz, zero_add, Finset.sum_filter, ← Equiv.sum_comp (idxEquiv1 (n := N)).symm]
  refine Finset.sum_congr rfl fun i _ => ?_
  rw [broadcastInDim_scalar_apply, ho]
  refine if_congr ?_ rfl rfl
  have e : (idxEquiv1 (n := N)).symm i = ix1 i := rfl
  rw [e, lands d hiw hsd hivd]
  have eb : broadcastInDim ⟨2, ![N, 1]⟩ ![0] B w (ix2 i (0 : Fin 1)) = w (ix1 i) := by
    unfold broadcastInDim
    refine congrArg w ?_
    funext a
    match a with
    | ⟨0, _⟩ =>
      apply Fin.ext
      have hi := i.isLt
      by_cases hN : N = 1
      · subst hN
        simp
      · simp [hN]
        rfl
  rw [eb]
  have := hw (ix1 i)
  rw [BitVec.toInt_eq_toNat_cond]
  have h2 : 2 * (w (ix1 i)).toNat < 2 ^ 32 := by omega
  rw [if_pos h2]
  exact Int.ofNat_inj

/-- The inner edges of evenly spaced ones, from zero to `m` in 2048 steps: edge `n` is `n` widths. -/
theorem edge_inner (m : EReal) (n : ℕ) :
    (0 : EReal) * (1 - Ideal.div ((n : ℝ) : EReal) ((2048 : ℝ) : EReal)) + m * Ideal.div ((n : ℝ) : EReal) ((2048 : ℝ) : EReal)
      = ((n : ℝ) : EReal) * Ideal.div m ((2048 : ℝ) : EReal) := by
  rw [Ideal.div_coe (by norm_num), Ideal.div_coe (by norm_num), zero_mul, zero_add, ← mul_assoc, ← mul_assoc, mul_comm m]

/-- The last edge is `m` itself. -/
theorem edge_last (m : EReal) : m = ((2048 : ℝ) : EReal) * Ideal.div m ((2048 : ℝ) : EReal) := by
  rw [Ideal.div_coe (by norm_num), mul_comm m, ← mul_assoc, ← EReal.coe_mul]
  norm_num

/-- A constant of the scalar shape, reshaped and broadcast, is read at the scalar's one index. -/
theorem one_apply {α : Type} {n : ℕ} (x : SS.Idx → α) (h : SS.ShapeCasts (S1d 1)) (B : (S1d 1).BroadcastsInDim (S1d n) ![0]) (j : (S1d n).Idx) :
    broadcastInDim (S1d n) ![0] B (shapeCast (S1d 1) x h) j = x ix0 := by
  unfold broadcastInDim shapeCast
  exact congrArg x (funext fun a => a.elim0)

/-- A small count, as a word and back as a real. -/
theorem sitofp_count {n : ℕ} (i : (S1d n).Idx) (hn : (i 0).val < 4096) :
    (sitofp (F := Ideal) .f32 (iotaInDim (S1d n) 32 0) i : EReal) = (((i 0).val : ℝ) : EReal) := by
  show (((BitVec.ofNat 32 (i 0).val).toInt : ℝ) : EReal) = _
  have h : (BitVec.ofNat 32 (i 0).val).toInt = ((i 0).val : ℤ) := by
    rw [BitVec.toInt_eq_toNat_cond, BitVec.toNat_ofNat]
    omega
  rw [h, Int.cast_natCast]

/-- A host width: a maximum less zero, over 2048. -/
theorem host_width {s : Shape} (A z c : FVec Ideal s .f32) (hz : ∀ k, (z k : EReal) = 0) (hc : ∀ k, (c k : EReal) = ((2048 : ℝ) : EReal)) (j : s.Idx) :
    (Host.divf (subf A z) c j : EReal) = Ideal.div (A j) ((2048 : ℝ) : EReal) := by
  show Ideal.div ((A j : EReal) - z j) (c j) = _
  rw [hz, hc, sub_zero]

/-- A host width without the subtraction. -/
theorem host_width' {s : Shape} (A c : FVec Ideal s .f32) (hc : ∀ k, (c k : EReal) = ((2048 : ℝ) : EReal)) (j : s.Idx) :
    (Host.divf A c j : EReal) = Ideal.div (A j) ((2048 : ℝ) : EReal) := by
  show Ideal.div (A j) (c j) = _
  rw [hc]

/-- The evenly spaced edges but the last. -/
theorem host_edges {n : ℕ} (M z o c : FVec Ideal SS .f32) (h : SS.ShapeCasts (S1d 1)) (B : (S1d 1).BroadcastsInDim (S1d n) ![0])
    (B0 : SS.BroadcastsInDim (S1d n) ![]) (hz : ∀ k, (z k : EReal) = 0) (ho : ∀ k, (o k : EReal) = 1)
    (hc : ∀ k, (c k : EReal) = ((2048 : ℝ) : EReal)) (j : (S1d n).Idx) (hn : (j 0).val < 4096) :
    (addf (mulf (broadcastInDim (S1d n) ![0] B (shapeCast (S1d 1) z h))
        (subf (broadcastInDim (S1d n) ![] B0 o) (Host.divf (sitofp .f32 (iotaInDim (S1d n) 32 0)) (broadcastInDim (S1d n) ![] B0 c))))
      (mulf (broadcastInDim (S1d n) ![0] B (shapeCast (S1d 1) M h))
        (Host.divf (sitofp .f32 (iotaInDim (S1d n) 32 0)) (broadcastInDim (S1d n) ![] B0 c))) j : EReal)
      = (((j 0).val : ℝ) : EReal) * Ideal.div (M ix0) ((2048 : ℝ) : EReal) := by
  show (broadcastInDim (S1d n) ![0] B (shapeCast (S1d 1) z h) j : EReal)
      * ((broadcastInDim (S1d n) ![] B0 o j : EReal) - Ideal.div (sitofp (F := Ideal) .f32 (iotaInDim (S1d n) 32 0) j) (broadcastInDim (S1d n) ![] B0 c j))
    + (broadcastInDim (S1d n) ![0] B (shapeCast (S1d 1) M h) j : EReal)
      * Ideal.div (sitofp (F := Ideal) .f32 (iotaInDim (S1d n) 32 0) j) (broadcastInDim (S1d n) ![] B0 c j) = _
  rw [one_apply, one_apply, broadcastInDim_scalar_apply, broadcastInDim_scalar_apply, hz, ho, hc, sitofp_count j hn]
  exact edge_inner _ _

/-- An edge as the kernel's host forms it. -/
theorem kernel_edge {n : ℕ} (w : FVec Ideal SS .f32) (B0 : SS.BroadcastsInDim (S1d n) ![]) (j : (S1d n).Idx) (hn : (j 0).val < 4096) :
    (mulf (sitofp .f32 (iotaInDim (S1d n) 32 0)) (broadcastInDim (S1d n) ![] B0 w) j : EReal) = (((j 0).val : ℝ) : EReal) * w ix0 := by
  show (sitofp (F := Ideal) .f32 (iotaInDim (S1d n) 32 0) j : EReal) * broadcastInDim (S1d n) ![] B0 w j = _
  rw [broadcastInDim_scalar_apply, sitofp_count j hn]

/-- A comparison with zero that came out one. -/
theorem ogt_zero {s : Shape} (A z : FVec Ideal s .f32) (hz : ∀ k, (z k : EReal) = 0) (j : s.Idx) (h : cmpf .ogt A z j = 1#1) : (0 : EReal) < A j := by
  have h' : BitVec.ofBool (decide ((z j : EReal) < A j)) = 1#1 := h
  rw [hz] at h'
  by_contra hn
  rw [decide_eq_false hn] at h'
  exact absurd h' (by decide)

end Cert.Bins

end
-- ==== Proof.ReferenceValue.lean ====
/-
  What the reference's two results are over the extended reals, read at an index: each counter is the number of elements whose bin it
  is, and each edge is its number times the bin width.
-/
module

public import proofs.«01_k».proof.Proof.Gen.ReferenceIdeal.Run
public import proofs.«01_k».proof.Proof.Bins
public import proofs.«01_k».proof.Proof.HostBins
public import Idealize.ShloMosaic.Lib.Quiescent
public import Idealize.ShloMosaic.Lib.Pipeline.Value

@[expose] public section

noncomputable section

namespace Cert.ReferenceIdeal.Own

open Cert.ReferenceIdeal Cert.ReferenceIdeal.Gen Cert.Bins Idealize.ShloMosaic Idealize.ShloMosaic.TcCoe Idealize.SL.Sem
open Idealize.ShloMosaic.ValueIdx Idealize.ShloMosaic.Ideal

/-! ## The reference's arrays, named -/

section Terms

variable {F : FTy → Type} [FloatOps F] (X : Vec F S33554432 .f32)

/-- The absolute values, taken where some element is negative. -/
def absX : Vec F S33554432 .f32 :=
  select (broadcastInDim S33554432 ![] bcast_S_S33554432 (cmpf .olt (Host.reduce FloatOps.minimumf X (constant S_ .f32 0x7F800000#32) reducesTo_S33554432_S_d0 h_S_) (constant S_ .f32 0x00000000#32))) (Host.absf X) X

/-- Their maximum. -/
def maxX : Vec F S_ .f32 := Host.reduce FloatOps.maximumf (absX X) (constant S_ .f32 0xFF800000#32) reducesTo_S33554432_S_d0 h_S_

/-- The bin width. -/
def widthX : Vec F S_ .f32 := Host.divf (subf (maxX X) (constant S_ .f32 0x00000000#32)) (constant S_ .f32 0x45000000#32)

/-- The clamped bins. -/
def wordX : IVec S33554432 32 :=
  minsi (broadcastInDim S33554432 ![] bcast_S_S33554432 (id (constantI S_ 32 2047#32))) (maxsi (broadcastInDim S33554432 ![] bcast_S_S33554432 (id (constantI S_ 32 0#32))) (fptosi 32 (Host.floor (Host.divf (subf (absX X) (broadcastInDim S33554432 ![] bcast_S_S33554432 (constant S_ .f32 0x00000000#32))) (broadcastInDim S33554432 ![] bcast_S_S33554432 (widthX X))))))

/-- The indices of the scattered addition: the bins, a negative one wrapped. -/
def idxX : IVec S33554432 32 :=
  select (cmpi .slt (wordX X) (broadcastInDim S33554432 ![] bcast_S_S33554432 (constantI S_ 32 0#32))) (addi (wordX X) (broadcastInDim S33554432 ![] bcast_S_S33554432 (constantI S_ 32 2048#32))) (wordX X)

/-- The counts. -/
def histX : Vec F S2048 .f32 :=
  Host.scatterAdd scatter_S2048_S33554432x1_S33554432_n_0_0_1 (broadcastInDim S2048 ![] bcast_S_S2048 (constant S_ .f32 0x00000000#32)) (broadcastInDim S33554432x1 ![0] bcast_S33554432_S33554432x1_0 (idxX X)) (broadcastInDim S33554432 ![] bcast_S_S33554432 (constant S_ .f32 0x3F800000#32))

/-- All the edges but the last. -/
def edgesX : Vec F S2048 .f32 :=
  addf (mulf (broadcastInDim S2048 ![0] bcast_S1_S2048_0 (shapeCast _ (constant S_ .f32 0x00000000#32) shapeCasts_S_S1)) (subf (broadcastInDim S2048 ![] bcast_S_S2048 (constant S_ .f32 0x3F800000#32)) (Host.divf (sitofp .f32 (iotaInDim S2048 32 0)) (broadcastInDim S2048 ![] bcast_S_S2048 (constant S_ .f32 0x45000000#32))))) (mulf (broadcastInDim S2048 ![0] bcast_S1_S2048_0 (shapeCast _ (maxX X) shapeCasts_S_S1)) (Host.divf (sitofp .f32 (iotaInDim S2048 32 0)) (broadcastInDim S2048 ![] bcast_S_S2048 (constant S_ .f32 0x45000000#32))))

/-- The edges. -/
def edgeX : Vec F S2049 .f32 :=
  concatenate S2049 0 [⟨S2048, edgesX X⟩, ⟨S1, broadcastInDim S1 ![] bcast_S_S1 (maxX X)⟩] concatenates_S2048_S1_S2049_d0

variable (m : (ℓ : Loc nD τ sig) → Buf (Elt F) ℓ)

/-- The flat input. -/
abbrev flat (c : Dev nD) : Vec F S33554432 .f32 := shapeCast S33554432 (m ((c.tc : Thread nD τ).loc main_arg0)) shapeCasts_S4x2048x4096_S33554432

/-- The reference's run: both results, the argument, and every counter at zero. -/
theorem run_named (ρ : Dev nD → PrngReg) :
    θ_run defs (onTc (τ := τ) (main (F := F))) ⟨m, fun _ => 0, ρ⟩ fun r => (∀ c : Dev nD,
      r.2.mem ((c.tc : Thread nD τ).loc main_v23) = histX (flat m c)
      ∧ r.2.mem ((c.tc : Thread nD τ).loc main_v24) = edgeX (flat m c)
      ∧ r.2.mem ((c.tc : Thread nD τ).loc main_arg0) = m ((c.tc : Thread nD τ).loc main_arg0))
      ∧ r.2.sem = fun _ => 0 :=
  (θ_run defs _ _).mono (fun r h => ⟨fun c => ⟨(h c).1.trans rfl, (h c).2.1.trans rfl, (h c).2.2⟩,
    sem_eq_zero_of_no_sems (by decide) r.2⟩) (Value.run m ρ)

end Terms

/-! ## Read at an index -/

section Read

variable (X : Vec Ideal S33554432 .f32)

/-- The absolute values are the absolute values, whether or not some element is negative. -/
theorem absX_at (i : S33554432.Idx) : (absX X i : EReal) = max (X i : EReal) (-(X i)) :=
  abs_select X _ _ bcast_S_S33554432 reducesTo_S33554432_S_d0 h_S_ (fun _ => ofBits_top) (fun _ => ofBits_zero_f32) i

/-- Their maximum is what bounds them. -/
theorem maxX_eq (M : EReal) (hM : ∀ z, M ≤ z ↔ ∀ i, max (X i : EReal) (-(X i)) ≤ z) (j : S_.Idx) : (maxX X j : EReal) = M := by
  haveI : Subsingleton S_.Idx := ⟨fun a b => funext fun i => i.elim0⟩
  refine eq_of_forall_ge_iff fun z => ?_
  rw [hM]
  refine (hostMax_le (absX X) _ reducesTo_S33554432_S_d0 h_S_ (fun _ => ofBits_bot) j z).trans ?_
  exact forall_congr' fun i => by rw [absX_at]

/-- The width is the maximum over 2048. -/
theorem widthX_eq (M : EReal) (hM : ∀ z, M ≤ z ↔ ∀ i, max (X i : EReal) (-(X i)) ≤ z) (j : S_.Idx) :
    (widthX X j : EReal) = Ideal.div M ((2048 : ℝ) : EReal) := by
  refine (host_width (maxX X) _ _ (fun _ => ofBits_zero_f32) (fun _ => ofBits_2048) j).trans ?_
  rw [maxX_eq X M hM]

/-- The clamped word of one element. -/
theorem wordX_at (M : EReal) (hM : ∀ z, M ≤ z ↔ ∀ i, max (X i : EReal) (-(X i)) ≤ z) (i : S33554432.Idx) :
    (wordX X i).toNat = binOf (Ideal.div M ((2048 : ℝ) : EReal)) (X i) := by
  have h : wordX X i = clampW (Ideal.fptosi 32 (Ideal.div (absX X i) (widthX X ix0))) :=
    host_word (absX X) _ (widthX X) _ _ bcast_S_S33554432 (fun _ => ofBits_zero_f32) (fun _ => rfl) (fun _ => rfl) i
  rw [h, absX_at, widthX_eq X M hM]
  rfl

/-- No wrapping changes it. -/
theorem idxX_at (M : EReal) (hM : ∀ z, M ≤ z ↔ ∀ i, max (X i : EReal) (-(X i)) ≤ z) (i : S33554432.Idx) :
    (idxX X i).toNat = binOf (Ideal.div M ((2048 : ℝ) : EReal)) (X i) := by
  have h : idxX X i = wordX X i :=
    wrap_clamp (wordX X) _ _ bcast_S_S33554432 (fun _ => rfl) i (by rw [wordX_at X M hM]; exact binOf_lt _ _)
  rw [h, wordX_at X M hM]

/-- The counts: at each bin the number of the elements whose bin it is. -/
theorem histX_at (M : EReal) (hM : ∀ z, M ≤ z ↔ ∀ i, max (X i : EReal) (-(X i)) ≤ z) (x : S2048.Idx) :
    (histX X x : EReal) = ∑ i : Fin 33554432, if binOf (Ideal.div M ((2048 : ℝ) : EReal)) (X (ix1 i)) = (x 0).val then (1 : EReal) else 0 := by
  refine (scatter_ones scatter_S2048_S33554432x1_S33554432_n_0_0_1 rfl rfl rfl (idxX X) bcast_S33554432_S33554432x1_0 bcast_S_S2048 bcast_S_S33554432
    _ _ (fun _ => ofBits_zero_f32) (fun _ => ofBits_one_f32) (fun i => by rw [idxX_at X M hM]; exact binOf_lt _ _) x).trans ?_
  exact Finset.sum_congr rfl fun i _ => by rw [idxX_at X M hM]

/-- An edge: its number times the width. -/
theorem edgeX_at (M : EReal) (hM : ∀ z, M ≤ z ↔ ∀ i, max (X i : EReal) (-(X i)) ≤ z) (x : S2049.Idx) :
    (edgeX X x : EReal) = (((x 0).val : ℝ) : EReal) * Ideal.div M ((2048 : ℝ) : EReal) := by
  have hx : (x 0).val < 2049 := (x 0).isLt
  by_cases h : (x 0).val < 2048
  · refine (concatenate_pair_apply_left 0 (edgesX X) _ concatenates_S2048_S1_S2049_d0 x rfl (ix1 ⟨(x 0).val, h⟩) fun b => ?_).trans ?_
    · obtain rfl : b = 0 := Subsingleton.elim (α := Fin 1) _ _
      rfl
    · refine (host_edges (maxX X) _ _ _ shapeCasts_S_S1 bcast_S1_S2048_0 bcast_S_S2048 (fun _ => ofBits_zero_f32) (fun _ => ofBits_one_f32)
        (fun _ => ofBits_2048) (ix1 ⟨(x 0).val, h⟩) (h.trans (by norm_num))).trans ?_
      rw [maxX_eq X M hM]
  · have e : (x 0).val = 2048 := by omega
    refine (concatenate_pair_apply_right 0 (edgesX X) (broadcastInDim S1 ![] bcast_S_S1 (maxX X)) concatenates_S2048_S1_S2049_d0 x rfl rfl (ix1 0) (fun b hb => ?_) ?_).trans ?_
    · exact absurd (Subsingleton.elim (α := Fin 1) _ _) hb
    · rw [e]; rfl
    · rw [broadcastInDim_scalar_apply, maxX_eq X M hM, e]
      exact_mod_cast edge_last M

end Read

end Cert.ReferenceIdeal.Own

end
-- ==== Proof.ClampedIdealResult.lean ====
/-
  The kernel's two results over the extended reals are the reference's: the word each lane counts at is the bin of its element, and both
  sides' counts and edges are one function of the input's largest absolute value.
-/
module

public import proofs.«01_k».proof.Proof.ClampedIdealWords
public import proofs.«01_k».proof.Proof.ClampedIdealValue
public import proofs.«01_k».proof.Proof.ReferenceValue

@[expose] public section

noncomputable section

namespace Cert.ClampedIdeal.Own

open Cert.ClampedIdeal Cert.ClampedIdeal.Gen Cert.Bins
open Idealize.ShloMosaic Idealize.ShloMosaic.ValueIdx Idealize.ShloMosaic.Ideal

variable (m : (ℓ : Loc nD τ sig) → Buf (Elt Ideal) ℓ) (d : Dev nD)

/-- The width is the largest absolute value over 2048. -/
theorem width_at (k : S_.Idx) : (width m d k : EReal) = Ideal.div (xmax m d) ((2048 : ℝ) : EReal) :=
  host_width' (fun _ => xmax m d) _ (fun _ => ofBits_2048) k

/-- Every lane holds the width. -/
theorem Wd_at (x : S16.Idx) : (Wd m d x : EReal) = Ideal.div (xmax m d) ((2048 : ℝ) : EReal) := by
  unfold Wd
  rw [VC_v5, broadcastInDim_scalar_apply, width_at]

/-- The largest absolute value bounds the flat input. -/
theorem xmax_flat (z : EReal) : (xmax m d : EReal) ≤ z ↔ ∀ i, max (Xd m d i : EReal) (-(Xd m d i)) ≤ z := by
  unfold Xd
  rw [VC_v4]
  exact (xmax_le m d z).trans (shapeCast_forall (arg m d) shapeCasts_S4x2048x4096_S33554432 (fun y : EReal => max y (-y) ≤ z)).symm

variable (hpay : ∀ (v : Vec Ideal S16 .f32) (x : S16.Idx), (k1_pay3 (F := Ideal) (Wd m d) v x).toNat
  = 2048 * (x 0).val + binOf (Ideal.div (xmax m d) ((2048 : ℝ) : EReal)) (v x))

include hpay in
/-- The counts are the reference's. -/
theorem hist_eq : (Host.reduceAdd (OUT (Xd m d) (Wd m d)) (constant S_ .f32 0x00000000#32) reducesTo_S32x2048_S2048_d0 h_S_ : Vec Ideal S2048 .f32)
    = Cert.ReferenceIdeal.Own.histX (Xd m d) := by
  funext i
  refine (counts_eq (Xd m d) (Wd m d) _ hpay i).trans ?_
  refine Eq.trans ?_ (Cert.ReferenceIdeal.Own.histX_at (Xd m d) (xmax m d) (xmax_flat m d) i).symm
  refine (Fin.sum_univ_eq_sum_range (fun p => if binOf (Ideal.div (xmax m d) ((2048 : ℝ) : EReal)) (at1 (Xd m d) p) = (i 0).val then (1 : EReal) else 0)
    33554432).symm.trans ?_
  refine Finset.sum_congr rfl fun p _ => ?_
  have e : at1 (Xd m d) p.val = Xd m d (ix1 p) := by
    unfold at1
    refine congrArg (Xd m d) (funext fun a => ?_)
    obtain rfl : a = 0 := Subsingleton.elim (α := Fin 1) _ _
    exact Fin.ext (Nat.mod_eq_of_lt p.isLt)
  rw [e]

/-- The edges are the reference's. -/
theorem edge_eq : (mulf (sitofp .f32 (iotaInDim S2049 32 0)) (broadcastInDim S2049 ![] bcast_S_S2049 (width m d)) : Vec Ideal S2049 .f32)
    = Cert.ReferenceIdeal.Own.edgeX (Xd m d) := by
  funext x
  have hx : (x 0).val < 4096 := lt_trans (x 0).isLt (by decide)
  refine (kernel_edge (width m d) bcast_S_S2049 x hx).trans ?_
  refine Eq.trans ?_ (Cert.ReferenceIdeal.Own.edgeX_at (Xd m d) (xmax m d) (xmax_flat m d) x).symm
  rw [width_at]

end Cert.ClampedIdeal.Own

end
-- ==== Proof.KernelIdealTile.lean ====
/-
  One SparseCore tile's task of the kernel: its histogram in lane-private rows, folded into one row of partial counts.

  The task on (SparseCore `c`, tile `s`) copies the bin width (sixteen equal words), clears its 16 x 2048 private counters,
  streams its 1048576 consecutive elements in 32 chunks of 32768, adds one to a counter per element (sixteen elements at a time,
  lane `r` counting in private row `r`), adds the sixteen private rows from the left, and writes the 2048 sums to row `16 c + s`
  of the result. `tile_body` runs the task ONCE at a symbolic (`c`, `s`) and states what that row holds.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Writes
public import Idealize.ShloMosaic.Lib.WritesUnit
public import proofs.«01_k».proof.Proof.Gen.KernelIdeal
public import proofs.«01_k».proof.Proof.Gen.KernelIdeal.Skeleton

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- The call runs on sixteen subcores -/
theorem nSub_zero : (K (F := F)).nSub 0 = 16 := rfl
/-- of each of two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and unscoped, and no buffer is shared between a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

/-- The flat input, the bin width's sixteen words and the partial counts, as locations of device `d`. -/
abbrev xLoc (d : Dev nD) : Loc nD τ sig := (SparseCore.T d).loc main_v4
abbrev wLoc (d : Dev nD) : Loc nD τ sig := (SparseCore.T d).loc main_v5
abbrev oLoc (d : Dev nD) : Loc nD τ sig := (SparseCore.T d).loc main_v6

local notation "xV" => (Memref.whole Cert.KernelIdeal.main_v4_scv : Memref Cert.KernelIdeal.sig Kind.scVector Space.hbm Cert.KernelIdeal.S33554432 EltTy.f32)
local notation "wV" => (Memref.whole Cert.KernelIdeal.main_v5_scv : Memref Cert.KernelIdeal.sig Kind.scVector Space.hbm Cert.KernelIdeal.S16 EltTy.f32)
local notation "oV" => (Memref.whole Cert.KernelIdeal.main_v6_scv : Memref Cert.KernelIdeal.sig Kind.scVector Space.hbm Cert.KernelIdeal.S32x2048 EltTy.f32)
local notation "sH" => (Memref.whole Cert.KernelIdeal.cc1_scratch0 : Memref Cert.KernelIdeal.sig Kind.scVector Space.vmem Cert.KernelIdeal.S32768 EltTy.f32)
local notation "sB" => (Memref.whole Cert.KernelIdeal.cc1_scratch1 : Memref Cert.KernelIdeal.sig Kind.scVector Space.vmem Cert.KernelIdeal.S32768 EltTy.f32)
local notation "sW" => (Memref.whole Cert.KernelIdeal.cc1_scratch2 : Memref Cert.KernelIdeal.sig Kind.scVector Space.vmem Cert.KernelIdeal.S16 EltTy.f32)
local notation "sR" => (Memref.whole Cert.KernelIdeal.cc1_scratch3 : Memref Cert.KernelIdeal.sig Kind.scVector Space.vmem Cert.KernelIdeal.S2048 EltTy.f32)

/-- The partial counts divide into 32 rows. -/
theorem hdiv : 32 ∣ S32x2048.size 0 := ⟨1, rfl⟩
/-- Row `t` of the partial counts: task `t`'s. -/
abbrev row (t : Fin 32) : Rect S32x2048 := Rect.part (s := S32x2048) (a₀ := 0) hdiv t
abbrev rowSet (t : Fin 32) : Finset S32x2048.Idx := ((oV).view.slice (row t)).set

variable [FloatOps F]

/-! ## What a task computes -/

section Value

variable (X : Vec F S33554432 .f32) (W : Vec F S16 .f32)

/-- Element `n` of the flat input (`n` below its length). -/
def at1 (n : ℕ) : F .f32 := X (Shape.ofLane (⟨n % 33554432, Nat.mod_lt _ (by norm_num)⟩ : Fin 33554432))

/-- Sixteen consecutive elements of the flat input from `b` on. -/
def lanes (b : ℕ) : Vec F S16 .f32 := fun x => at1 X (b + (x 0).val)

/-- One counting step: every lane adds one to the counter its element's bin names in the lane's own row. (The counters stay where an
    index would name no counter.) -/
def histStep (g : Vec F S32768 .f32) (v : Vec F S16 .f32) : Vec F S32768 .f32 :=
  if h : k1_chk1 (k1_pay3 W v) then storeIdx g ![k1_pay3 W v] (k1_pay1 (F := F)) (fun _ => 1#1) true (k1_idx1_inb _ h) else g

/-- The counters after `n` steps of the task whose elements start at `b`. -/
def histN (b : ℕ) : ℕ → Vec F S32768 .f32
  | 0 => fun _ => Scalar.ofBits .f32 0x00000000#32
  | n + 1 => histStep W (histN b n) (lanes X (b + 16 * n))

/-- Counter `n` of the private rows. -/
def at2 (g : Vec F S32768 .f32) (n : ℕ) : F .f32 := g (Shape.ofLane (⟨n % 32768, Nat.mod_lt _ (by norm_num)⟩ : Fin 32768))

/-- The sum of the first `r + 1` private rows at bin `b`, from the left. -/
def laneSum (g : Vec F S32768 .f32) : ℕ → ℕ → F .f32
  | 0, b => at2 g b
  | r + 1, b => FloatOps.addf (laneSum g r b) (at2 g (2048 * r + b + 2048))

/-- What task `t` leaves at bin `b`. -/
def partial1 (t b : ℕ) : F .f32 := laneSum (histN X W (1048576 * t) 65536) 15 b

/-- The partial counts of all the tasks. -/
def OUT : Vec F S32x2048 .f32 := fun i => partial1 X W (i 0).val (i 1).val

end Value

/-! ## What the handshakes carry -/

section Pay

variable (X : Dev nD → Vec F S33554432 .f32) (W : Dev nD → Vec F S16 .f32) (m : (ℓ : Loc nD τ sig) → Buf (Elt F) ℓ)

/-- The number of the task on (SparseCore `c`, tile `s`). -/
def tileNo (c : Fin 2) (s : Fin 16) : Fin 32 := ⟨16 * c.val + s.val, by omega⟩

/-- Task `t`'s read share of an array all the tasks read. -/
abbrev rq (t : Fin 32) : PosShare TreeShare := Transfers.dealOf fullShare (Finset.univ : Finset (Fin 32)) t

/-- What task `t` is handed: its read shares of the input and of the bin width, and its row of the partial counts. -/
def inPts (d : Dev nD) (t : Fin 32) : sProp 𝕄 :=
  iprop((xLoc d ↦{rq t} X d) ∗ (wLoc d ↦{rq t} W d) ∗ (oLoc d ↦[rowSet t]{fullShare} m (oLoc d)))
/-- What it hands back: the shares, and its row at the counts it computed. -/
def outPts (d : Dev nD) (t : Fin 32) : sProp 𝕄 :=
  iprop((xLoc d ↦{rq t} X d) ∗ (wLoc d ↦{rq t} W d) ∗ (oLoc d ↦[rowSet t]{fullShare} OUT (X d) (W d)))

instance inPts_storable (d : Dev nD) (t : Fin 32) : BI.Storable (upEmb : UEmb _ 𝕄) (inPts X W m d t) := by
  unfold inPts; infer_instance
instance outPts_storable (d : Dev nD) (t : Fin 32) : BI.Storable (upEmb : UEmb _ 𝕄) (outPts X W d t) := by
  unfold outPts; infer_instance

/-- The one call hands each SparseCore what its sixteen tasks are handed and takes back what they hand back. -/
def P : (K (F := F)).Pay (nD := nD) (Val := Elt F) (Name := ℕ) (U := UU) where
  st := fun q d c => match q with
    | 0 => bigSep Finset.univ fun i : Fin ((K (F := F)).nSub 0) => inPts X W m d (tileNo (Fin.cast nCore_zero c) (Fin.cast nSub_zero i))
  dn := fun q d c => match q with
    | 0 => bigSep Finset.univ fun i : Fin ((K (F := F)).nSub 0) => outPts X W d (tileNo (Fin.cast nCore_zero c) (Fin.cast nSub_zero i))
  go := fun q d c i => match q with | 0 => inPts X W m d (tileNo (Fin.cast nCore_zero c) (Fin.cast nSub_zero i))
  td := fun q d c i => match q with | 0 => outPts X W d (tileNo (Fin.cast nCore_zero c) (Fin.cast nSub_zero i))
  x := fun _ _ => iprop(emp)

instance P_storable : (P X W m).IsStorable where
  st q d c := match q with
    | 0 => (inferInstance : BI.Storable (upEmb : UEmb _ 𝕄)
        (bigSep Finset.univ fun i : Fin ((K (F := F)).nSub 0) => inPts X W m d (tileNo (Fin.cast nCore_zero c) (Fin.cast nSub_zero i))))
  dn q d c := match q with
    | 0 => (inferInstance : BI.Storable (upEmb : UEmb _ 𝕄)
        (bigSep Finset.univ fun i : Fin ((K (F := F)).nSub 0) => outPts X W d (tileNo (Fin.cast nCore_zero c) (Fin.cast nSub_zero i))))
  go q d c i := match q with
    | 0 => (inferInstance : BI.Storable (upEmb : UEmb _ 𝕄) (inPts X W m d (tileNo (Fin.cast nCore_zero c) (Fin.cast nSub_zero i))))
  td q d c i := match q with
    | 0 => (inferInstance : BI.Storable (upEmb : UEmb _ 𝕄) (outPts X W d (tileNo (Fin.cast nCore_zero c) (Fin.cast nSub_zero i))))

end Pay

/-! ## The task -/

section Tile

variable (d : Dev nD) (L : grid1.Coords)

abbrev cV (L : grid1.Coords) : Fin τ.nSC := (L 0).castLE hcore1
abbrev jV (L : grid1.Coords) : Fin τ.nSub := (L 1).castLE hsub1
omit [FloatOps F] in
/-- The first coordinate of a task is its SparseCore, one of two. -/
theorem bound_zero : grid1.bound 0 = 2 := rfl
omit [FloatOps F] in
/-- The second is its subcore, one of sixteen. -/
theorem bound_one : grid1.bound 1 = 16 := rfl
abbrev tL (L : grid1.Coords) : Fin 32 := tileNo (Fin.cast bound_zero (L 0)) (Fin.cast bound_one (L 1))

abbrev rowK (L : grid1.Coords) : Rect S32x2048 := Rect.unit (s := S32x2048) (k1_off7 L) S1x2048.size (k1_off7_inb L)
abbrev oRowK (L : grid1.Coords) : Memref sig .scVector .hbm S2048 .f32 := ((oV).slice (rowK L) (fun _ => rfl)).squeeze S2048 squeezes_S1x2048_S2048

omit [FloatOps F] in
/-- The row that the body names is the task's. -/
theorem rowK_eq : rowK L = row (tL L) := by
  unfold rowK row Rect.part Rect.block
  congr 1 <;> funext a
  · rw [k1_off7_eq]
    match a with
    | 0 => simp [Shape.partIx, Shape.partSize, tileNo]; rfl
    | 1 => simp [Shape.partIx, Shape.partSize]
  · match a with
    | 0 => simp [Shape.partSize]
    | 1 => simp [Shape.partSize]

omit [FloatOps F] in
/-- The body's view of its row covers the task's row. -/
theorem set_oRowK : (oRowK L).view.set = rowSet (tL L) := by
  show (((oV).view.slice (rowK L)).reshape S2048 squeezes_S1x2048_S2048.numel_eq).set = ((oV).view.slice (row (tL L))).set
  rw [View.set_reshape]
  exact rowK_eq L ▸ rfl

omit [FloatOps F] in
/-- The task's row of the partial counts, in the body's spelling and the launch's. -/
theorem pts_oRowK (f : Buf (Elt F) (oLoc d)) :
    ((oRowK L).view.loc (V d (cV L) (jV L)) ↦[(oRowK L).view.set]{fullShare} f : sProp 𝕄) = oLoc d ↦[rowSet (tL L)]{fullShare} f := by
  rw [set_oRowK]

omit [FloatOps F] in
/-- The input's contents, in the body's spelling and the launch's. -/
theorem pts_x (q : PosShare TreeShare) (f : Buf (Elt F) (xLoc d)) :
    ((xV).view.loc (V d (cV L) (jV L)) ↦{q} f : sProp 𝕄) = xLoc d ↦{q} f := rfl
omit [FloatOps F] in
/-- The width's contents, likewise. -/
theorem pts_w (q : PosShare TreeShare) (f : Buf (Elt F) (wLoc d)) :
    ((wV).view.loc (V d (cV L) (jV L)) ↦{q} f : sProp 𝕄) = wLoc d ↦{q} f := rfl
omit [FloatOps F] in
/-- The counters' contents, likewise. -/
theorem pts_sH (f : Buf (Elt F) ((V d (cV L) (jV L)).loc cc1_scratch0)) :
    ((sH).view.loc (V d (cV L) (jV L)) ↦{fullShare} f : sProp 𝕄) = (V d (cV L) (jV L)).loc cc1_scratch0 ↦{fullShare} f := rfl
omit [FloatOps F] in
/-- The chunk buffer's contents, likewise. -/
theorem pts_sB (f : Buf (Elt F) ((V d (cV L) (jV L)).loc cc1_scratch1)) :
    ((sB).view.loc (V d (cV L) (jV L)) ↦{fullShare} f : sProp 𝕄) = (V d (cV L) (jV L)).loc cc1_scratch1 ↦{fullShare} f := rfl
omit [FloatOps F] in
/-- The width buffer's contents, likewise. -/
theorem pts_sW (f : Buf (Elt F) ((V d (cV L) (jV L)).loc cc1_scratch2)) :
    ((sW).view.loc (V d (cV L) (jV L)) ↦{fullShare} f : sProp 𝕄) = (V d (cV L) (jV L)).loc cc1_scratch2 ↦{fullShare} f := rfl
omit [FloatOps F] in
/-- The sums' contents, likewise. -/
theorem pts_sR (f : Buf (Elt F) ((V d (cV L) (jV L)).loc cc1_scratch3)) :
    ((sR).view.loc (V d (cV L) (jV L)) ↦{fullShare} f : sProp 𝕄) = (V d (cV L) (jV L)).loc cc1_scratch3 ↦{fullShare} f := rfl

/-- The three copies' cells. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)

omit [FloatOps F] in
/-- The tile's own semaphores at zero are the three copies' and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase
              (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped2.sem : SemLoc sig).isScoped .scVector = true; decide⟩⟩⟩)]

omit [FloatOps F] in
/-- The tile's own buffers are the four scratches, each at some contents, together with the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  have own : ∀ r : Ref sig .scVector, ((Proc.scVector (cV L) (jV L)).devRef r : DevRef τ sig).owner = .proc (.scVector (cV L) (jV L)) →
      (Proc.scVector (cV L) (jV L)).devRef r ∈ ownRefs (τ := τ) (.scVector (cV L) (jV L)) := fun r h =>
    SparseCore.Cfg.mem_ownRefs_of_owner (p := Proc.scVector (cV L) (jV L)) h
  have ne : ∀ {r r' : Ref sig .scVector}, r ≠ r' → (Proc.scVector (cV L) (jV L)).devRef r ≠ (Proc.scVector (cV L) (jV L)).devRef r' :=
    fun h e => h (Proc.devRef_injective _ e)
  refine (SparseCore.bigSep_erase' (own cc1_scratch0 rfl)).trans ?_
  rw [SparseCore.bigSep_erase' (Finset.mem_erase.mpr ⟨ne (show cc1_scratch1 ≠ cc1_scratch0 by decide), own cc1_scratch1 rfl⟩),
    SparseCore.bigSep_erase' (Finset.mem_erase.mpr ⟨ne (show cc1_scratch2 ≠ cc1_scratch1 by decide),
      Finset.mem_erase.mpr ⟨ne (show cc1_scratch2 ≠ cc1_scratch0 by decide), own cc1_scratch2 rfl⟩⟩),
    SparseCore.bigSep_erase' (Finset.mem_erase.mpr ⟨ne (show cc1_scratch3 ≠ cc1_scratch2 by decide),
      Finset.mem_erase.mpr ⟨ne (show cc1_scratch3 ≠ cc1_scratch1 by decide),
      Finset.mem_erase.mpr ⟨ne (show cc1_scratch3 ≠ cc1_scratch0 by decide), own cc1_scratch3 rfl⟩⟩⟩)]

/-! ## Reading and writing the buffers, as plain functions -/

omit [FloatOps F] in
/-- A counter, read by its position. -/
theorem at2_val (g : Vec F S32768 .f32) (i : S32768.Idx) : g i = at2 g (i 0).val := by
  unfold at2
  congr 1
  funext a
  obtain rfl : a = 0 := Subsingleton.elim _ _
  exact Fin.ext (Nat.mod_eq_of_lt (i 0).isLt).symm

omit [FloatOps F] in
/-- An element of the flat input, read by its position. -/
theorem at1_val (X : Vec F S33554432 .f32) (i : S33554432.Idx) : X i = at1 X (i 0).val := by
  unfold at1
  congr 1
  funext a
  obtain rfl : a = 0 := Subsingleton.elim _ _
  exact Fin.ext (Nat.mod_eq_of_lt (i 0).isLt).symm

omit [FloatOps F] in
/-- Sixteen counters loaded from `o` on. -/
theorem readAt_sH {off : Fin 1 → ℕ} (inb : ∀ a, off a + S16.size a ≤ S32768.size a) (o : ℕ) (heq : off = ![o])
    (f : Vec F S32768 .f32) (x : S16.Idx) :
    (sH).view.readAt (Elt F) (Rect.unit (s := S32768) off S16.size inb).toLoadRect f x = at2 f (o + (x 0).val) := by
  subst heq
  show f ((Rect.unit (s := S32768) ![o] S16.size inb).emb x) = _
  rw [at2_val f]
  congr 1
  show o + 1 * (x 0).val = _
  omega

omit [FloatOps F] in
/-- Sixteen elements of the chunk loaded from `o` on. -/
theorem readAt_sB {off : Fin 1 → ℕ} (inb : ∀ a, off a + S16.size a ≤ S32768.size a) (o : ℕ) (heq : off = ![o])
    (f : Vec F S32768 .f32) (x : S16.Idx) :
    (sB).view.readAt (Elt F) (Rect.unit (s := S32768) off S16.size inb).toLoadRect f x = at2 f (o + (x 0).val) := by
  subst heq
  show f ((Rect.unit (s := S32768) ![o] S16.size inb).emb x) = _
  rw [at2_val f]
  congr 1
  show o + 1 * (x 0).val = _
  omega

/-- One more block of sixteen counters cleared. -/
theorem clear_step {off : Fin 1 → ℕ} (inb : ∀ a, off a + S16.size a ≤ S32768.size a) (k : ℕ) (heq : off = ![16 * k])
    (f : Vec F S32768 .f32) (hf : ∀ i : S32768.Idx, (i 0).val < 16 * k → f i = Scalar.ofBits .f32 0x00000000#32) (i : S32768.Idx)
    (hi : (i 0).val < 16 * (k + 1)) :
    (sH).view.writes (Elt F) f [⟨Rect.unit (s := S32768) off S16.size inb, k1_pay2 (F := F)⟩] i = Scalar.ofBits .f32 0x00000000#32 := by
  show View.read (Elt F) (sH).view ((sH).view.writes (Elt F) f [⟨Rect.unit (s := S32768) off S16.size inb, k1_pay2 (F := F)⟩]) i = _
  by_cases h : (i 0).val < 16 * k
  · rw [View.read_writes_cons_unit_of_not_mem (sH).view f inb _ [] i heq 0 (.inl h)]
    exact hf i h
  · rw [View.read_writes_cons_unit_of_mem (sH).view f inb _ [] i (Shape.ofLane (⟨(i 0).val - 16 * k, by omega⟩ : Fin 16) : S16.Idx) heq
      (fun a => by obtain rfl : a = (0 : Fin 1) := Subsingleton.elim (α := Fin 1) _ _; show (i 0).val = 16 * k + ((i 0).val - 16 * k); omega)]
    rfl

/-- One more block of sixteen sums stored. -/
theorem fold_step {off : Fin 1 → ℕ} (inb : ∀ a, off a + S16.size a ≤ S2048.size a) (k : ℕ) (heq : off = ![16 * k])
    (f : Vec F S2048 .f32) (G : ℕ → F .f32) (hf : ∀ i : S2048.Idx, (i 0).val < 16 * k → f i = G (i 0).val)
    (w : Vec F S16 .f32) (hw : ∀ x : S16.Idx, w x = G (16 * k + (x 0).val)) (i : S2048.Idx) (hi : (i 0).val < 16 * (k + 1)) :
    (sR).view.writes (Elt F) f [⟨Rect.unit (s := S2048) off S16.size inb, w⟩] i = G (i 0).val := by
  show View.read (Elt F) (sR).view ((sR).view.writes (Elt F) f [⟨Rect.unit (s := S2048) off S16.size inb, w⟩]) i = _
  by_cases h : (i 0).val < 16 * k
  · rw [View.read_writes_cons_unit_of_not_mem (sR).view f inb _ [] i heq 0 (.inl h)]
    exact hf i h
  · rw [View.read_writes_cons_unit_of_mem (sR).view f inb _ [] i (Shape.ofLane (⟨(i 0).val - 16 * k, by omega⟩ : Fin 16) : S16.Idx) heq
      (fun a => by obtain rfl : a = (0 : Fin 1) := Subsingleton.elim (α := Fin 1) _ _; show (i 0).val = 16 * k + ((i 0).val - 16 * k); omega)]
    rw [hw]
    congr 1
    show 16 * k + ((i 0).val - 16 * k) = _
    omega

omit [FloatOps F] in
/-- What a chunk's copy reads: 32768 consecutive elements of the input from `o` on. -/
theorem read_chunk {off : Fin 1 → ℕ} (inb : ∀ a, off a + S32768.size a ≤ S33554432.size a) (o : ℕ) (heq : off = ![o])
    (X : Vec F S33554432 .f32) (i : S32768.Idx) :
    View.read (Elt F) ((xV).slice (Rect.unit (s := S33554432) off S32768.size inb) (fun _ => rfl)).view X i = at1 X (o + (i 0).val) := by
  subst heq
  show X ((Rect.unit (s := S33554432) ![o] S32768.size inb).emb i) = _
  rw [at1_val X]
  congr 1
  show o + 1 * (i 0).val = _
  omega

omit [FloatOps F] in
/-- Reading the counters whole reads their contents. -/
theorem access_read (f : Vec F S32768 .f32) : ((sH).access (.whole S32768)).read (Elt F) f = f := by
  funext i
  show f ((Rect.whole S32768).emb i) = f i
  rw [Rect.emb_whole_apply]

omit [FloatOps F] in
/-- Writing the counters whole leaves what is written. -/
theorem access_write (f w : Vec F S32768 .f32) : ((sH).access (.whole S32768)).write (Elt F) f w Finset.univ = w := by
  funext i
  have e : ((sH).access (.whole S32768)).emb i = i := Rect.emb_whole_apply S32768 i
  conv_lhs => rw [← e]
  rw [View.write_emb_of_mem _ _ (Finset.mem_univ _)]
  rfl

omit [FloatOps F] in
/-- The counters whole, as the scatter addresses them. -/
theorem pts_sH_access (d : Dev nD) (L : grid1.Coords) (f : Vec F S32768 .f32) :
    (((sH).access (.whole S32768)).loc (V d (cV L) (jV L)) ↦[((sH).access (.whole S32768)).set]{fullShare} f : sProp 𝕄)
      = ((sH).view.loc (V d (cV L) (jV L)) ↦{fullShare} f) := by
  rw [show ((sH).access (.whole S32768)).set = Finset.univ from Memref.set_access_whole (cc1_scratch0 : Ref sig .scVector)]

/-- What the folding stores: the sixteen rows added from the left. -/
theorem fold_pay (h : Vec F S32768 .f32) (k : Fin (Scf.trips k1_t4_loop.lb k1_t4_loop.ub k1_t4_loop.st)) (x : S16.Idx) :
    k1_pay4 (k1_pay5 ((sH).view.readAt (Elt F) (Rect.unit (s := S32768) (k1_off4 k) S16.size (k1_off4_inb k)).toLoadRect h)
        ((sH).view.readAt (Elt F) (Rect.unit (s := S32768) (k1_off5 k 2048#32) S16.size (k1_off5_inb k 0)).toLoadRect h)
        ((sH).view.readAt (Elt F) (Rect.unit (s := S32768) (k1_off5 k 4096#32) S16.size (k1_off5_inb k 1)).toLoadRect h)
        ((sH).view.readAt (Elt F) (Rect.unit (s := S32768) (k1_off5 k 6144#32) S16.size (k1_off5_inb k 2)).toLoadRect h)
        ((sH).view.readAt (Elt F) (Rect.unit (s := S32768) (k1_off5 k 8192#32) S16.size (k1_off5_inb k 3)).toLoadRect h)
        ((sH).view.readAt (Elt F) (Rect.unit (s := S32768) (k1_off5 k 10240#32) S16.size (k1_off5_inb k 4)).toLoadRect h)
        ((sH).view.readAt (Elt F) (Rect.unit (s := S32768) (k1_off5 k 12288#32) S16.size (k1_off5_inb k 5)).toLoadRect h)
        ((sH).view.readAt (Elt F) (Rect.unit (s := S32768) (k1_off5 k 14336#32) S16.size (k1_off5_inb k 6)).toLoadRect h))
        ((sH).view.readAt (Elt F) (Rect.unit (s := S32768) (k1_off5 k 16384#32) S16.size (k1_off5_inb k 7)).toLoadRect h)
        ((sH).view.readAt (Elt F) (Rect.unit (s := S32768) (k1_off5 k 18432#32) S16.size (k1_off5_inb k 8)).toLoadRect h)
        ((sH).view.readAt (Elt F) (Rect.unit (s := S32768) (k1_off5 k 20480#32) S16.size (k1_off5_inb k 9)).toLoadRect h)
        ((sH).view.readAt (Elt F) (Rect.unit (s := S32768) (k1_off5 k 22528#32) S16.size (k1_off5_inb k 10)).toLoadRect h)
        ((sH).view.readAt (Elt F) (Rect.unit (s := S32768) (k1_off5 k 24576#32) S16.size (k1_off5_inb k 11)).toLoadRect h)
        ((sH).view.readAt (Elt F) (Rect.unit (s := S32768) (k1_off5 k 26624#32) S16.size (k1_off5_inb k 12)).toLoadRect h)
        ((sH).view.readAt (Elt F) (Rect.unit (s := S32768) (k1_off5 k 28672#32) S16.size (k1_off5_inb k 13)).toLoadRect h)
        ((sH).view.readAt (Elt F) (Rect.unit (s := S32768) (k1_off5 k 30720#32) S16.size (k1_off5_inb k 14)).toLoadRect h) x
      = laneSum h 15 (16 * k.val + (x 0).val) := by
  have e0 := readAt_sH (k1_off4_inb k) _ (k1_off4_eq k) h x
  have e : ∀ (r : Fin 15) (c : BitVec 32) (hc : c = BitVec.ofNat 32 (2048 + 2048 * r.val)) (inb),
      (sH).view.readAt (Elt F) (Rect.unit (s := S32768) (k1_off5 k c) S16.size inb).toLoadRect h x
        = at2 h (2048 * r.val + (16 * k.val + (x 0).val) + 2048) := by
    rintro r c rfl inb
    rw [readAt_sH inb _ (k1_off5_eq k r) h x]
    congr 1
    omega
  exact congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf (congrArg₂ FloatOps.addf e0
    (e 0 _ rfl (k1_off5_inb k 0)))
    (e 1 _ rfl (k1_off5_inb k 1)))
    (e 2 _ rfl (k1_off5_inb k 2)))
    (e 3 _ rfl (k1_off5_inb k 3)))
    (e 4 _ rfl (k1_off5_inb k 4)))
    (e 5 _ rfl (k1_off5_inb k 5)))
    (e 6 _ rfl (k1_off5_inb k 6)))
    (e 7 _ rfl (k1_off5_inb k 7)))
    (e 8 _ rfl (k1_off5_inb k 8)))
    (e 9 _ rfl (k1_off5_inb k 9)))
    (e 10 _ rfl (k1_off5_inb k 10)))
    (e 11 _ rfl (k1_off5_inb k 11)))
    (e 12 _ rfl (k1_off5_inb k 12)))
    (e 13 _ rfl (k1_off5_inb k 13)))
    (e 14 _ rfl (k1_off5_inb k 14))

omit [FloatOps F] in
/-- Sixteen elements of a chunk are sixteen elements of the input. -/
theorem chunk_lanes (X : Vec F S33554432 .f32) (b k : ℕ) (j : Fin (Scf.trips k1_t3_loop.lb k1_t3_loop.ub k1_t3_loop.st)) :
    (sB).view.readAt (Elt F) (Rect.unit (s := S32768) (k1_off3 j) S16.size (k1_off3_inb j)).toLoadRect
        (fun i : S32768.Idx => at1 X (b + 32768 * k + (i 0).val))
      = lanes X (b + 16 * (2048 * k + j.val)) := by
  funext x
  have hj : j.val < 2048 := j.isLt
  have hx : (x 0).val < 16 := (x 0).isLt
  rw [readAt_sB (k1_off3_inb j) _ (k1_off3_eq j)]
  unfold at2 lanes
  show at1 X (b + 32768 * k + (16 * j.val + (x 0).val) % 32768) = _
  congr 1
  rw [Nat.mod_eq_of_lt (by omega)]
  omega

/-- A scatter of sixteen ones is a counting step. -/
theorem store_step (W v v' : Vec F S16 .f32) (g : Vec F S32768 .f32) (hv : v = v') (h : k1_chk1 (k1_pay3 W v)) :
    ((sH).access (.whole S32768)).write (Elt F) g
      (storeIdx (((sH).access (.whole S32768)).read (Elt F) g) ![k1_pay3 W v] (k1_pay1 (F := F)) (fun _ => 1#1) true (k1_idx1_inb _ h))
      Finset.univ = histStep W g v' := by
  subst hv
  rw [access_write, access_read]
  unfold histStep
  rw [dif_pos h]

omit [FloatOps F] in
/-- The cell of the partial counts that a row's `j`-th entry goes to. -/
theorem row_emb (j : S2048.Idx) :
    ((oRowK L).view.emb j : S32x2048.Idx) = (rowK L).emb (Fin.cons ⟨0, Nat.one_pos⟩ j) := by
  show (rowK L).emb (Shape.reshapeEquiv squeezes_S1x2048_S2048.numel_eq j) = _
  rw [Shape.reshapeEquiv_cons_one]

/-- A position in a block is its offset and the position inside. -/
theorem unit_emb_val (off : Fin 2 → ℕ) (inb : ∀ a, off a + S1x2048.size a ≤ S32x2048.size a) (x : S1x2048.Idx) (a : Fin 2) :
    (((Rect.unit (s := S32x2048) off S1x2048.size inb).emb x : S32x2048.Idx) a).val = off a + 1 * (x a).val := rfl

/-- An entry of the body's row lies in the task's row, -/
theorem row_emb0 (j : S2048.Idx) : (((oRowK L).view.emb j : S32x2048.Idx) 0).val = (tL L).val := by
  rw [row_emb, unit_emb_val (k1_off7 L) (k1_off7_inb L) _ 0, k1_off7_eq]
  show (16 * (L 0).val + (L 1).val) + 1 * 0 = _
  rw [Nat.mul_zero, Nat.add_zero]
  rfl

/-- at its own column. -/
theorem row_emb1 (j : S2048.Idx) : (((oRowK L).view.emb j : S32x2048.Idx) 1).val = (j 0).val := by
  rw [row_emb, unit_emb_val (k1_off7 L) (k1_off7_inb L) _ 1, k1_off7_eq]
  show 0 + 1 * (j 0).val = _
  rw [Nat.zero_add, Nat.one_mul]

omit [FloatOps F] in
/-- Reading the row reads the array there. -/
theorem row_read (f : Vec F S32x2048 .f32) (j : S2048.Idx) :
    View.read (Elt F) (oRowK L).view f j = f ((oRowK L).view.emb j) := rfl

/-- The row of the partial counts, written with the 2048 sums. -/
theorem row_value (X : Vec F S33554432 .f32) (W : Vec F S16 .f32) (fo : Vec F S32x2048 .f32) (g : Vec F S2048 .f32)
    (hg : ∀ i : S2048.Idx, g i = laneSum (histN X W (1048576 * (tL L).val) 65536) 15 (i 0).val) :
    ∀ i ∈ (oRowK L).view.set, (oRowK L).view.writes (Elt F) fo [⟨Rect.whole S2048, g⟩] i = OUT X W i := by
  intro i hi
  obtain ⟨j, -, rfl⟩ := Finset.mem_map.mp hi
  refine (row_read L _ j).symm.trans ?_
  rw [View.read_writes_whole, hg j]
  unfold OUT partial1
  rw [row_emb0, row_emb1]

variable (X : Dev nD → Vec F S33554432 .f32) (W : Dev nD → Vec F S16 .f32) (m : (ℓ : Loc nD τ sig) → Buf (Elt F) ℓ)

/-- The tile thread. -/
abbrev thr : Thread nD τ := V d (cV L) (jV L)

/-- Clearing the counters: before trip `k` the first `16 k` are zero. -/
def inv1 (k : Nat) (_ : Unit) : sProp 𝕄 :=
  iprop(∃ f : Vec F S32768 .f32, ⌜∀ i, (i 0).val < 16 * k → f i = Scalar.ofBits .f32 0x00000000#32⌝
    ∗ ((sH).view.loc (thr d L) ↦{fullShare} f))

/-- The first element of the task. -/
abbrev base (L : grid1.Coords) : ℕ := 1048576 * (tL L).val

/-- Streaming: before chunk `k` the counters have taken `2048 k` steps. -/
def inv2 (O : CellTallies nD τ sig (HIx 1)) (Wt : Waits sig (HIx 1)) (k : Nat) (_ : Unit) : sProp 𝕄 :=
  iprop(Transfers.MayWaits (thr d L) (default : HIx 1) O
    ∗ ((xV).view.loc (thr d L) ↦{rq (tL L)} X d)
    ∗ ((sH).view.loc (thr d L) ↦{fullShare} histN (X d) (W d) (base L) (2048 * k))
    ∗ (∃ f : Vec F S32768 .f32, (sB).view.loc (thr d L) ↦{fullShare} f)
    ∗ semVal (thr d L, SemLoc.dma cc1_scoped1.sem) 0
    ∗ ∃ W', ⌜∀ p ∈ W', p ∈ Wt ∨ p.2 = none⌝ ∗ owes (thr d L) O W')

/-- Counting a chunk `f`: before trip `j` of chunk `k` the counters have taken `2048 k + j` steps. -/
def inv3 (k : Nat) (f : Vec F S32768 .f32) (j : Nat) (_ : Unit) : sProp 𝕄 :=
  iprop(((sH).view.loc (thr d L) ↦{fullShare} histN (X d) (W d) (base L) (2048 * k + j))
    ∗ ((sB).view.loc (thr d L) ↦{fullShare} f))

/-- Folding: before trip `k` the first `16 k` sums are in place. -/
def inv4 (h : Vec F S32768 .f32) (k : Nat) (_ : Unit) : sProp 𝕄 :=
  iprop(((sH).view.loc (thr d L) ↦{fullShare} h)
    ∗ ∃ f : Vec F S2048 .f32, ⌜∀ i, (i 0).val < 16 * k → f i = laneSum h 15 (i 0).val⌝
    ∗ ((sR).view.loc (thr d L) ↦{fullShare} f))

/-- The body of a tile: from its shares of the input and of the width and its row of the partial counts, it ends with the row holding its elements' counts, every semaphore at zero. -/
theorem tile_body (hok : ∀ v : Vec F S16 .f32, k1_chk1 (k1_pay3 (W d) v)) (hF : (K (F := F)).Facts)
    (O : CellTallies nD τ sig (HIx 1)) (Wt : Waits sig (HIx 1)) (hO : ∀ g, O g none = 0) :
    iprop(levAts (K (F := F)).L (K (F := F)).lev ∗ emp ∗ inPts X W m d (tL L)
        ∗ scopedBufs (V d (cV L) (jV L)) ∗ scopedSems0 (V d (cV L) (jV L)) ∗ owes (V d (cV L) (jV L)) O Wt)
      ⊢ wp frame (wpE (defs₀ (F := F)) 𝒱₀ (V d (cV L) (jV L)) none) Set.univ
          (cc1_body L xV (Memref.isWhole_whole _) wV (Memref.isWhole_whole _) oV (Memref.isWhole_whole _)
            sH (Memref.isWhole_whole _) sB (Memref.isWhole_whole _) sW (Memref.isWhole_whole _) sR (Memref.isWhole_whole _)
            cc1_scoped0 cc1_scoped1 cc1_scoped2)
          fun _ => iprop(outPts X W d (tL L)
            ∗ scopedBufs (V d (cV L) (jV L)) ∗ scopedSems0 (V d (cV L) (jV L))
            ∗ ∃ W', ⌜∀ p ∈ W', p ∈ Wt ∨ p.2 = none ∨ p.2 = some (0 : Fin 1)⌝ ∗ owes (V d (cV L) (jV L)) O W') := by
  unfold inPts outPts
  rw [(K (F := F)).scopedBufs_V hF d (cV L) (jV L), SparseCore.Cfg.scopedSems0_V (Val := Elt F) d (cV L) (jV L), ownSems0_V, ownBufs_V]
  iintro ⟨#Hlv, -, ⟨Hx, Hw, Ho⟩, ⟨⟨%fh, Hh⟩, ⟨%fb, Hb⟩, ⟨%fw, Hsw⟩, ⟨%fr, Hr⟩, Hbufs⟩, ⟨HsA, HsB, HsC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_x (F := F) d L _ _).symm) $$ Hx
  ihave Hw' := (Entails.of_eq (pts_w (F := F) d L _ _).symm) $$ Hw
  ihave Ho' := (Entails.of_eq (pts_oRowK (F := F) d L _).symm) $$ Ho
  ihave Hh' := (Entails.of_eq (pts_sH (F := F) d L _).symm) $$ Hh
  ihave Hb' := (Entails.of_eq (pts_sB (F := F) d L _).symm) $$ Hb
  ihave Hsw' := (Entails.of_eq (pts_sW (F := F) d L _).symm) $$ Hsw
  ihave Hr' := (Entails.of_eq (pts_sR (F := F) d L _).symm) $$ Hr
  sl_unfold [cc1_body]
  sl_exec
  have hW : View.readAt (Elt F) (sW).view (Rect.unit (s := S16) ![0] S16.size inb_S16_S16_0).toLoadRect
      (View.write (Elt F) (sW).view fw (tile_body.sl.dma0 d W) Finset.univ) = W d := by
    unfold tile_body.sl.dma0
    funext x
    show (sW).view.write (Elt F) fw (View.read (Elt F) (wV).view (W d)) Finset.univ ((Rect.unit (s := S16) ![0] S16.size inb_S16_S16_0).emb x) = W d x
    rw [show (sW).view.write (Elt F) fw (View.read (Elt F) (wV).view (W d)) Finset.univ = W d from View.write_whole_univ (cc1_scratch2 : Ref sig .scVector) fw (W d)]
    show W d ((Rect.unit (s := S16) ![0] S16.size inb_S16_S16_0).emb x) = W d x
    congr 1
    funext a
    obtain rfl : a = 0 := Subsingleton.elim _ _
    exact Fin.ext (show 0 + 1 * (x 0).val = (x 0).val by omega)
  generalize View.readAt (Elt F) (sW).view (Rect.unit (s := S16) ![0] S16.size inb_S16_S16_0).toLoadRect
      (View.write (Elt F) (sW).view fw (tile_body.sl.dma0 d W) Finset.univ) = v3 at hW
  subst hW
  sl_for (inv1 (F := F) d L) $$ [Hh']
  case region =>
    intro k _
    unfold inv1
    iintro ⟨%f, %hf, Hh⟩
    sl_exec
    sl_step
    iexists _
    isplitr
    swap; · iexact Hh
    ipureintro
    exact fun i hi => clear_step _ k.val (k1_off1_eq k) f hf i hi
  · unfold inv1
    iexists _
    isplitr
    swap; · iexact Hh'
    ipureintro
    exact fun i hi => absurd hi (by omega)
  iintro %_ HI
  unfold inv1
  icases HI with ⟨%h0, %hh0, Hh⟩
  have h0eq : h0 = histN (X d) (W d) (base L) 0 := funext fun i => hh0 i (i 0).isLt
  subst h0eq
  sl_exec
  sl_for (inv2 (F := F) d L X W O Wt) $$ [Hmw Hx' Hh Hb' HsB HO]
  case region =>
    intro k _
    unfold inv2
    iintro ⟨Hmw, Hx, Hh, ⟨%fb, Hb⟩, HsB, %W', %hW', HO⟩
    sl_exec (disch := exact View.amount_pos _ _ (show 0 < S32768.numel by decide))
    have hc : View.write (Elt F) (sB).view fb (tile_body.sl.dma0_1 d L X k) Finset.univ
        = fun i => at1 (X d) (base L + 32768 * k.val + (i 0).val) := by
      unfold tile_body.sl.dma0_1
      refine (View.write_whole_univ (cc1_scratch1 : Ref sig .scVector) fb _).trans ?_
      funext i
      exact read_chunk (k1_off2_inb L k) _ ((k1_off2_eq L k).trans (by
        congr 1; show _ = 1048576 * (16 * (L 0).val + (L 1).val) + _; omega)) (X d) i
    rw [hc]
    sl_for (inv3 (F := F) d L X W k.val (fun i => at1 (X d) (base L + 32768 * k.val + (i 0).val))) $$ [Hh Hb]
    case region =>
      intro j _
      unfold inv3
      iintro ⟨Hh, Hb⟩
      sl_exec (disch := exact hok _)
      ihave Hh' := (Entails.of_eq (pts_sH_access (F := F) d L _).symm) $$ Hh
      iapply (SparseCore.wp_vectorStoreIdx 𝒱₀ (V d (cV L) (jV L)) none Set.univ (base := sH)) $$ Hh'
      iintro Hh'
      ihave Hh := (Entails.of_eq (pts_sH_access (F := F) d L _)) $$ Hh'
      sl_step
      isplitl [Hh]
      · have e := store_step (W d) _ _ (histN (X d) (W d) (base L) (2048 * k.val + j.val)) (chunk_lanes (X d) (base L) k.val j) (hok _)
        iapply (Entails.of_eq (congrArg (fun f : Vec F S32768 .f32 => ((sH).view.loc (V d (cV L) (jV L)) ↦{fullShare} f : sProp 𝕄)) e))
        iexact Hh
      iexact Hb
    · unfold inv3
      isplitl [Hh]; · iexact Hh
      iexact Hb
    iintro %_ HI
    unfold inv3
    icases HI with ⟨Hh, Hb⟩
    sl_exec
    sl_step
    isplitl [Hmw]; · iexact Hmw
    isplitl [Hx]; · iexact Hx
    isplitl [Hh]; · iexact Hh
    isplitl [Hb]; · iexists _; iexact Hb
    isplitl [HsB]; · iexact HsB
    iexists _; isplitr
    swap; · iexact HO
    ipureintro; intro p hp
    rcases Finset.mem_insert.mp hp with hp | hp
    · exact .inr (hp ▸ rfl)
    · exact hW' p hp
  · unfold inv2
    isplitl [Hmw]; · iexact Hmw
    isplitl [Hx']; · iexact Hx'
    isplitl [Hh]; · iexact Hh
    isplitl [Hb']; · iexists _; iexact Hb'
    isplitl [HsB]; · iexact HsB
    iexists _; isplitr
    swap; · iexact HO
    ipureintro; intro p hp
    rcases Finset.mem_insert.mp hp with hp | hp
    · exact .inr (hp ▸ rfl)
    · exact .inl hp
  iintro %_ HI
  unfold inv2
  icases HI with ⟨-, Hx, Hh, ⟨%fb', Hb⟩, HsB, %W', %hW', HO⟩
  sl_exec
  sl_for (inv4 (F := F) d L (histN (X d) (W d) (base L) 65536)) $$ [Hh Hr']
  case region =>
    intro k _
    unfold inv4
    iintro ⟨Hh, %f, %hf, Hr⟩
    sl_exec
    sl_step
    isplitl [Hh]; · iexact Hh
    iexists _
    isplitr
    swap; · iexact Hr
    ipureintro
    unfold tile_body.sl.r tile_body.sl.r_1
    exact fun i hi => fold_step _ k.val (k1_off6_eq k) f (laneSum (histN (X d) (W d) (base L) 65536) 15) hf _
      (fold_pay (histN (X d) (W d) (base L) 65536) k) i hi
  · unfold inv4
    isplitl [Hh]; · iexact Hh
    iexists _
    isplitr
    swap; · iexact Hr'
    ipureintro
    exact fun i hi => absurd hi (by omega)
  iintro %_ HI
  unfold inv4
  icases HI with ⟨Hh, %fr', %hfr', Hr⟩
  sl_exec (disch := exact View.amount_pos _ _ (show 0 < S2048.numel by decide))
  sl_step
  isplitl [Hx Hw' Ho']
  · isplitl [Hx]; · iexact Hx
    isplitl [Hw']; · iexact Hw'
    iapply (Entails.of_eq (pts_oRowK (F := F) d L _))
    iapply (Entails.of_eq (pointsTo_congr (row_value L (X d) (W d) _ _ (fun i => hfr' i (i 0).isLt))))
    iexact Ho'
  isplitl [Hh Hb Hsw' Hr Hbufs]
  · isplitl [Hh]; · iexists _; iexact Hh
    isplitl [Hb]; · iexists _; iexact Hb
    isplitl [Hsw']; · iexists _; iexact Hsw'
    isplitl [Hr]; · iexists _; iexact Hr
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; intro p _
  rcases p.2 with _ | q
  · exact .inr (.inl rfl)
  · exact .inr (.inr (congrArg some (Subsingleton.elim q 0)))

end Tile

end Cert.KernelIdeal.Own

end
-- ==== Proof.KernelIdealAbsmax.lean ====
/-
  The kernel's TensorCore part: the largest absolute value of the input, over a grid of sixteen row blocks.

  Every point loads its 512 x 4096 block and takes the maximum of the absolute values (`k0_pay1`); the first point stores it in the
  one-element result, every later one stores the maximum of it and what the result holds (`k0_pay2`). So the result ends holding the
  running maximum `chain` after the last point. `reg` states this of the whole region, entered from any contents of the arrays.
-/
module

public import proofs.«01_k».proof.Proof.KernelIdealTile
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value

@[expose] public section

noncomputable section

namespace Cert.KernelIdeal.Own

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F]

local notation "𝕄" => MT nD τ sig (HIx 1) (Elt F) ℕ UU ℕ

/-! ## What the region computes -/

/-- The block of point `n`: rows 512 n to 512 n + 511. -/
def blkAt (A : Vec F S8192x4096 .f32) (n : ℕ) : Vec F S512x4096 .f32 := fun j =>
  A (fun a => match a with
    | ⟨0, _⟩ => (⟨(512 * n + (j 0).val) % 8192, Nat.mod_lt _ (by norm_num)⟩ : Fin 8192)
    | ⟨1, _⟩ => (⟨(j 1).val, (j 1).isLt⟩ : Fin 4096))

/-- The running maximum of the absolute values after point `n`. -/
def chain (A : Vec F S8192x4096 .f32) : ℕ → F .f32
  | 0 => k0_pay1 (blkAt A 0)
  | n + 1 => k0_pay2 (blkAt A (n + 1)) (chain A n)

/-- The two zero offsets are the zero function. -/
theorem hz2 : (![0, 0] : Fin 2 → Nat) = fun _ => 0 := funext fun a => by fin_cases a <;> rfl

/-! ## The body -/

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A load of the whole block reads the whole block. -/
theorem load_whole (M0 : Memref sig .tc .vmem S512x4096 .f32) (f0 : M0.view.ty.Contents (Elt F)) :
    View.readAt (Elt F) M0.view (Rect.unit (s := S512x4096) ![0, 0] S512x4096.size inb_S512x4096_S512x4096_0_0).toLoadRect f0 = M0.view.read (Elt F) f0 := by
  rw [View.readAt_eq_ld, View.ld_unit_zero (S := S512x4096) hz2]

/-- A store of the result's one element leaves just that element. -/
theorem store_one (M1 : Memref sig .tc .smem S1x1 .f32) (f1 : M1.view.ty.Contents (Elt F)) (G : F .f32) :
    M1.view.read (Elt F) (M1.view.writes (Elt F) f1 [⟨Rect.unit (s := S1x1) ![0, 0] S1x1.size inb_S1x1_S1x1_0_0, fun _ => G⟩]) = fun _ => G := by
  rw [View.read_writes_eq_canon _ _ _ (fun y => ⟨_, List.mem_singleton.mpr rfl, by
    rw [Rect.mem_set_unit]; intro a; have := (y a).isLt
    match a with
    | ⟨0, _⟩ => exact ⟨Nat.zero_le _, by simpa using this⟩
    | ⟨1, _⟩ => exact ⟨Nat.zero_le _, by simpa using this⟩⟩), View.canon_unit_zero (S := S1x1) hz2]
  rfl

/-- The body at the grid's first point: it stores the block's maximum in the result word. -/
theorem body_first (c : Dev nD) (i : grid0.Coords) (h1 : k0_cond1 i = 1#1) (h2 : k0_cond2 i ≠ 1#1)
    (M0 : Memref sig .tc .vmem S512x4096 .f32) (w0 : M0.IsWhole) (M1 : Memref sig .tc .smem S1x1 .f32) (w1 : M1.IsWhole)
    (f0 : Bf (F := F) c M0) (f1 : Bf (F := F) c M1) (Q : PUnit → sProp 𝕄) :
    iprop(pt c M0 f0 ∗ pt c M1 f1 ∗ (iprop(pt c M0 f0 ∗ ∃ g, ⌜M1.view.read (Elt F) g = fun _ => k0_pay1 (M0.view.read (Elt F) f0)⌝ ∗ pt c M1 g) -∗ Q ⟨⟩))
      ⊢ wp frame (wpE (defs₀ (F := F)) Variants.none (c : Thread nD τ) none) Set.univ (cc0__absmax_body i M0 w0 M1 w1) Q := by
  rw [cc0__absmax_body_eq_skeleton]
  unfold cc0__absmax_body_skel
  simp only [dif_pos h1, dif_neg h2]
  iintro ⟨H0, H1, Hk⟩
  sl_exec
  sl_step
  iapply Hk
  isplitl [H0]; · iexact H0
  iexists _; isplitr; swap; (· iexact H1); ipureintro
  exact (store_one M1 f1 _).trans (funext fun _ => congrArg k0_pay1 (load_whole M0 f0))

/-- The body at a later point: it stores the larger of the result word and the block's maximum. -/
theorem body_rest (c : Dev nD) (i : grid0.Coords) (h1 : k0_cond1 i ≠ 1#1) (h2 : k0_cond2 i = 1#1)
    (M0 : Memref sig .tc .vmem S512x4096 .f32) (w0 : M0.IsWhole) (M1 : Memref sig .tc .smem S1x1 .f32) (w1 : M1.IsWhole)
    (f0 : Bf (F := F) c M0) (f1 : Bf (F := F) c M1) (Q : PUnit → sProp 𝕄) :
    iprop(pt c M0 f0 ∗ pt c M1 f1 ∗ (iprop(pt c M0 f0 ∗ ∃ g, ⌜∀ v, M1.view.read (Elt F) f1 = (fun _ => v) →
        M1.view.read (Elt F) g = fun _ => k0_pay2 (M0.view.read (Elt F) f0) v⌝ ∗ pt c M1 g) -∗ Q ⟨⟩))
      ⊢ wp frame (wpE (defs₀ (F := F)) Variants.none (c : Thread nD τ) none) Set.univ (cc0__absmax_body i M0 w0 M1 w1) Q := by
  rw [cc0__absmax_body_eq_skeleton]
  unfold cc0__absmax_body_skel
  simp only [dif_neg h1, dif_pos h2]
  iintro ⟨H0, H1, Hk⟩
  sl_exec
  sl_step
  iapply Hk
  isplitl [H0]; · iexact H0
  iexists _; isplitr; swap; (· iexact H1); ipureintro
  intro v hv
  refine (store_one M1 f1 _).trans (funext fun _ => congrArg₂ k0_pay2 (load_whole M0 f0) ?_)
  sl_unfold_words
  rw [View.readAt_eq_ld]
  exact congrFun ((View.ld_unit_zero (S := S1x1) hz2 _ _).trans hv) _

/-- A whole memref owned at contents, as its buffer held. -/
theorem owns_pt (c : Dev nD) {sp : Space} {S : Shape} {e : EltTy} (M : Memref sig .tc sp S e) (w : M.IsWhole) (X : S.Idx → Elt F e) :
    (owns (c : Thread nD τ) M fullShare X : sProp 𝕄) = iprop(∃ f, ⌜M.view.read (Elt F) f = X⌝ ∗ pt c M f) := by
  unfold owns; rw [w.set_eq_univ]

/-! ## The proof data, at an entry valuation -/

variable (Vc : (c : Dev nD) → (b : Ref sig .tc) → Buf (Elt F) ((c : Thread nD τ).loc b))

/-- The pairs of a core's waits whose level is below every call's. -/
abbrev recs (c : Dev nD) : Set (SemLoc sig × HIx 1) := {p | (K (F := F)).lev ((T c : Thread nD τ), p.1) p.2 ≤ 0}

/-- The proof data of the region entered at `Vc`: the input's block as fetched, the result at the running maximum; the core still
    owes the SparseCores their starts. -/
def dat (c : Dev nD) : Dat τ (Elt F) (HIx 1) ℕ UU ℕ cfg0 c where
  A w := Vc c (Pipeline.arrRef spec0 w)
  after w t := match w with
    | ⟨0, _⟩ => blkAt (Vc c main_v0) t.val
    | ⟨1, _⟩ => fun _ => chain (Vc c main_v0) t.val
  Φ _ := Pipeline.scopedRest (Ix := HIx 1) (Name := ℕ) (U := UU) (Lvl := ℕ) (Val := Elt F) spec0 c
  q _ := fullShare
  owed _ := (K (F := F)).Otc c 0
  recorded _ := recs (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat Vc c

/-- The block of the input that a point reads is the one with its number. -/
theorem idx0_0 (t : Fin cfg0.N) : win0_0.index t 0 = t.val ∧ win0_0.index t 1 = 0 := by
  rcases fin_N0 t with rfl | rfl | rfl | rfl | rfl | rfl | rfl | rfl | rfl | rfl | rfl | rfl | rfl | rfl | rfl | rfl <;> decide

/-- The first branch is taken at point zero alone, the second at every other point. -/
theorem conds (t : Fin cfg0.N) : (t.val = 0 → k0_cond1 (grid0.coords t) = 1#1 ∧ k0_cond2 (grid0.coords t) ≠ 1#1)
    ∧ (t.val ≠ 0 → k0_cond1 (grid0.coords t) ≠ 1#1 ∧ k0_cond2 (grid0.coords t) = 1#1) := by
  rcases fin_N0 t with rfl | rfl | rfl | rfl | rfl | rfl | rfl | rfl | rfl | rfl | rfl | rfl | rfl | rfl | rfl | rfl <;> decide

/-- The result window is in use at every point. -/
theorem live1 : ∀ i, cfg0.idle 1 i = false := by decide

/-- The block a point fetches. -/
theorem blk_read (A : Vec F S8192x4096 .f32) (t : Fin cfg0.N) :
    (((cfg0.win 0).blk t).view.read (Elt F) A : Vec F S512x4096 .f32) = blkAt A t.val := by
  have hi := idx0_0 t
  have hN : cfg0.N = 16 := N_0
  have ht := t.isLt
  funext j
  rw [View.read_apply]
  show A _ = A _
  congr 1
  funext a
  apply Fin.ext
  have h0 : (j 0).val < 512 := (j 0).isLt
  match a with
  | ⟨0, _⟩ => show win0_0.index t 0 * 512 + 1 * (j 0).val = (512 * t.val + (j 0).val) % 8192; rw [hi.1, Nat.mod_eq_of_lt (by omega)]; omega
  | ⟨1, _⟩ => show win0_0.index t 1 * 4096 + 1 * (j 1).val = (j 1).val; rw [hi.2]; omega

/-- Before a point's body the input window holds the point's block. -/
theorem before_in (c : Dev nD) (t : Fin cfg0.N) (d : (cfg0.win 0).block.Idx → Elt F (cfg0.win 0).elt) :
    (dat Vc c).before 0 t d = blkAt (Vc c main_v0) t.val := by
  rw [(dat Vc c).before_fetched 0 t (fetch0_0 t), ← blk_read]; rfl

/-- Before a later point the result word holds the running maximum so far. -/
theorem before_out (c : Dev nD) (t : Fin cfg0.N) (ht : t.val ≠ 0) (d : (cfg0.win 1).block.Idx → Elt F (cfg0.win 1).elt) :
    (dat Vc c).before 1 t d = fun _ => chain (Vc c main_v0) (t.val - 1) := by
  have hN : cfg0.N = 16 := N_0
  have := t.isLt
  rw [(dat Vc c).before_out_kept 1 rfl t ht (by
    rw [Bool.eq_false_iff]; intro h; have := (flush0_1 _).mp h; dsimp only at this; omega) live1 (fun _ _ => rfl)]
  rfl

/-- The body's obligation at every point. -/
theorem body_obligation (c : Dev nD) : BodyObligation (dat Vc c) (defs₀ (F := F)) 𝒱₀ none Set.univ := fun t => by
  rw [bigSep_W0, bigSep_W0]
  simp only [owns_pt _ _ (stage_whole0 0 _), owns_pt _ _ (stage_whole0 1 _), show idle0 1 (grid0.coords t) = false from live1 _]
  rw [show (dat Vc c).Φ t.succ = (dat Vc c).Φ t.castSucc from rfl, show (dat Vc c).owesAt none t.succ = (dat Vc c).owesAt none t.castSucc from rfl]
  iintro ⟨HΦ, Howes, ⟨%d0, %f0, %hf0, H0⟩, ⟨%d1, %f1, %hf1, H1⟩⟩
  rw [before_in] at hf0
  by_cases ht : t.val = 0
  · obtain ⟨c1, c2⟩ := (conds t).1 ht
    iapply (body_first c (grid0.coords t) c1 c2 (st0_0 t) (stage_whole0 0 _) (st0_1 t) (stage_whole0 1 _) f0 f1 _)
    isplitl [H0]; · iexact H0
    isplitl [H1]; · iexact H1
    iintro ⟨H0, ⟨%g, %hg, H1⟩⟩
    isplitl [HΦ]; · iexact HΦ
    isplitl [Howes]; · iexact Howes
    isplitl [H0]
    · iexists _; isplitr; swap; (· iexact H0); ipureintro; exact hf0
    · iexists _; isplitr; swap; (· iexact H1); ipureintro; refine hg.trans ?_
      rw [hf0]; show _ = fun _ => chain (Vc c main_v0) t.val; rw [ht]; rfl
  · obtain ⟨c1, c2⟩ := (conds t).2 ht
    rw [before_out _ _ _ ht] at hf1
    iapply (body_rest c (grid0.coords t) c1 c2 (st0_0 t) (stage_whole0 0 _) (st0_1 t) (stage_whole0 1 _) f0 f1 _)
    isplitl [H0]; · iexact H0
    isplitl [H1]; · iexact H1
    iintro ⟨H0, ⟨%g, %hg, H1⟩⟩
    isplitl [HΦ]; · iexact HΦ
    isplitl [Howes]; · iexact Howes
    isplitl [H0]
    · iexists _; isplitr; swap; (· iexact H0); ipureintro; exact hf0
    · iexists _; isplitr; swap; (· iexact H1); ipureintro; refine (hg _ hf1).trans ?_
      rw [hf0]; show _ = fun _ => chain (Vc c main_v0) t.val
      obtain ⟨k, hk⟩ := Nat.exists_eq_succ_of_ne_zero ht
      rw [hk]; rfl

/-! ## What the result array ends holding -/

/-- The largest absolute value, as contents of the one-element result. -/
abbrev result (c : Dev nD) : Buf (Elt F) ((c : Thread nD τ).loc main_v1) := fun _ => chain (Vc c main_v0) 15

/-- What is written back at the end is the running maximum after the last point. -/
theorem flushed_eq (c : Dev nD) (t : Fin cfg0.N) (hf : (cfg0.win 1).flush t = true) :
    (dat Vc c).flushed 1 t = ((cfg0.win 1).blk t).view.read (Elt F) (result Vc c) := by
  have hN : cfg0.N = 16 := N_0
  have h3 : t.val = 15 := by have := (flush0_1 t).mp hf; have := t.isLt; omega
  obtain rfl : t = t0_15 := Fin.ext h3
  rfl

/-- The result array ends holding the running maximum after the last point. -/
theorem final_o (c : Dev nD) : (dat Vc c).arrAt 1 cfg0.N = result Vc c :=
  (dat Vc c).arrAt_eq_of_cover 1 (result Vc c) (flushed_eq Vc c) fun i =>
    ⟨t0_15, (flush0_1 t0_15).mpr rfl, by
      show i ∈ ((View.whole main_v1).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega⟩

/-! ## The region -/

variable (Vp : (c : Dev nD) → (b : Ref sig .tc) → Buf (Elt F) ((c : Thread nD τ).loc b))

/-- What the core owes the SparseCores while the region runs, its waits' pairs at or below level zero. -/
abbrev owing (c : Dev nD) : sProp 𝕄 := iprop(∃ W, ⌜(K (F := F)).WBelow (T c) W 0⌝ ∗ owes (T c : Thread nD τ) ((K (F := F)).Otc c 0) W)

/-- The core owes nothing at its own waits. -/
theorem Otc_none (c : Dev nD) : ∀ g, (K (F := F)).Otc (nD := nD) c 0 g none = 0 := by
  intro g
  by_contra h
  have h1 := SparseCore.Cfg.lev_of_Otc_pos (K := K (F := F)) (Nat.pos_of_ne_zero h)
  rw [SparseCore.Cfg.lev_none] at h1
  exact absurd h1 (by omega)

set_option backward.isDefEq.respectTransparency.types false in
/-- The region over the thread state: every unscoped buffer at `Vc`, entered, and at `Vp`, left. -/
def reg (hout : ∀ c, Vp c main_v1 = result Vc c) (hne : ∀ c (b : Ref sig .tc), b ≠ main_v1 → Vp c b = Vc c b) :
    Pipeline.RegionSeg (pcfgs (F := F)) adm (pdats Vc) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation Vc c).loose
  hwaits c := Pipeline.cellsWaits_intro _ _ _ _ _ fun w s t => (K (F := F)).mayWait_none _ (Otc_none c)
  pre c := iprop(unscopedBufs c (Vc c) ∗ owing c)
  post c := iprop(unscopedBufs c (Vp c) ∗ owing c)
  X _ := BI.emp
  Y _ := BI.emp
  Z c := iprop(Pipeline.unscopedRest (Ix := HIx 1) (Name := ℕ) (U := UU) (Lvl := ℕ) spec0 c (Vc c))
  hentry c := by
    rw [Pipeline.ownSems0_none]
    have hsplit := Pipeline.arrays_of_unscopedBufs (p := 0) (pcfgs (F := F)) adm (pdats Vc) launch0.win launch0.arr_whole c
      ((pdats Vc 0 c).share_full fun _ => rfl) (Vc c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats Vc 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats Vc 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats Vc) ((pdats Vc 0 c).share_full fun _ => rfl) (Vc c) (Vp c) ((pdats Vc 0 c).arrAt · cfg0.N)
      (fun w => by
        fin_cases w
        · exact ((pdats Vc 0 c).arrAt_in 0 rfl _).trans (hne c main_v0 (by decide)).symm
        · exact (final_o Vc c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact le_rfl
    · iexact HO

end Cert.KernelIdeal.Own

end
-- ==== Proof.KernelIdealRun.lean ====
/-
  The kernel's whole program: the largest absolute value on the TensorCore, the bin width, the SparseCores' partial counts, and the
  two results from them. `run_main` states that every execution terminates without a fault, that the argument ends unchanged, that
  every semaphore counter reads zero again, and what the two results hold.
-/
module

public import proofs.«01_k».proof.Proof.KernelIdealAbsmax
public import Idealize.ShloMosaic.Lib.Pipeline.Frame

@[expose] public section

noncomputable section

namespace Cert.KernelIdeal.Own

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.StableHlo (seq after held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (cellsGhost toksInit pin)

variable {F : FTy → Type} [FloatOps F]

local notation "𝕄" => MT nD τ sig (HIx 1) (Elt F) ℕ UU ℕ

/-! ## The host operations, and the arrays' contents between them -/

abbrev rf (b : Ref sig .tc) : DevRef τ sig := Proc.devRef .tc b

/-- The operation before the region. -/
abbrev opsA : List (HloOp τ sig (Elt F)) :=
  [StableHlo.reshape main_arg0 main_v0 (rfl : (.f32 : EltTy) = .f32) shapeCasts_S4x2048x4096_S8192x4096]

/-- The operations between the region and the SparseCore call. -/
abbrev opsB : List (HloOp τ sig (Elt F)) :=
  [StableHlo.reshape main_v1 main_v2 (rfl : (.f32 : EltTy) = .f32) shapeCasts_S1x1_S_,
   StableHlo.nullary main_cst (constant S_ .f32 0x45000000#32),
   StableHlo.binary main_v2 main_cst main_v3 (Host.divf : (⟨S_, .f32⟩ : BufTy).Contents (Elt F) → (⟨S_, .f32⟩ : BufTy).Contents (Elt F) → (⟨S_, .f32⟩ : BufTy).Contents (Elt F)),
   StableHlo.reshape main_arg0 main_v4 (rfl : (.f32 : EltTy) = .f32) shapeCasts_S4x2048x4096_S33554432,
   StableHlo.unary main_v3 main_v5 (broadcastInDim S16 ![] bcast_S_S16 : (⟨S_, .f32⟩ : BufTy).Contents (Elt F) → (⟨S16, .f32⟩ : BufTy).Contents (Elt F))]

/-- The operations after the SparseCore call. -/
abbrev opsC : List (HloOp τ sig (Elt F)) :=
  [StableHlo.nullary main_cst_0 (constant S_ .f32 0x00000000#32),
   StableHlo.binary main_v6 main_cst_0 main_v7 ((fun x v => Host.reduceAdd x v reducesTo_S32x2048_S2048_d0 h_S_) : (⟨S32x2048, .f32⟩ : BufTy).Contents (Elt F) → (⟨S_, .f32⟩ : BufTy).Contents (Elt F) → (⟨S2048, .f32⟩ : BufTy).Contents (Elt F)),
   StableHlo.nullary main_v8 (sitofp .f32 (iotaInDim S2049 32 0)),
   StableHlo.unary main_v3 main_v9 (broadcastInDim S2049 ![] bcast_S_S2049 : (⟨S_, .f32⟩ : BufTy).Contents (Elt F) → (⟨S2049, .f32⟩ : BufTy).Contents (Elt F)),
   StableHlo.binary main_v8 main_v9 main_v10 (mulf : (⟨S2049, .f32⟩ : BufTy).Contents (Elt F) → (⟨S2049, .f32⟩ : BufTy).Contents (Elt F) → (⟨S2049, .f32⟩ : BufTy).Contents (Elt F))]

/-- The program in order. -/
theorem main_eq (d : Dev nD) : main (F := F) d =
    (do seq opsA
        Prog.lift (.customCall (SparseCore.inner (Pipeline.entry 0)) ())
        seq opsB
        sc.run d 0
        seq opsC
        pure ⟨⟩) := rfl

open Idealize.ShloMosaic.StableHlo in
/-- Every operation's buffers are among the arrays the thread holds. -/
theorem subA : ∀ op ∈ opsA (F := F), op.bufs ⊆ Pipeline.ucRefs τ sig := fun op h =>
  Pipeline.sub_ucRefs op ((List.forall_iff_forall_mem.mp (show (opsA (F := F)).Forall fun op => op.bufs ⊆ StableHlo.tcRefs τ sig from reshape_bufs_sub ..)) op h)
open Idealize.ShloMosaic.StableHlo in
/-- Every operation's buffers are among the arrays the thread holds. -/
theorem subB : ∀ op ∈ opsB (F := F), op.bufs ⊆ Pipeline.ucRefs τ sig := fun op h =>
  Pipeline.sub_ucRefs op ((List.forall_iff_forall_mem.mp (show (opsB (F := F)).Forall fun op => op.bufs ⊆ StableHlo.tcRefs τ sig from
    ⟨reshape_bufs_sub .., nullary_bufs_sub .., binary_bufs_sub .., reshape_bufs_sub .., unary_bufs_sub ..⟩)) op h)
open Idealize.ShloMosaic.StableHlo in
/-- Every operation's buffers are among the arrays the thread holds. -/
theorem subC : ∀ op ∈ opsC (F := F), op.bufs ⊆ Pipeline.ucRefs τ sig := fun op h =>
  Pipeline.sub_ucRefs op ((List.forall_iff_forall_mem.mp (show (opsC (F := F)).Forall fun op => op.bufs ⊆ StableHlo.tcRefs τ sig from
    ⟨nullary_bufs_sub .., binary_bufs_sub .., nullary_bufs_sub .., unary_bufs_sub .., binary_bufs_sub ..⟩)) op h)

/-- Every operation determines its results. -/
theorem freshA : ∀ op ∈ opsA (F := F), op.fresh = ∅ := by intro _ h; (repeat (cases h with | head => rfl | tail _ h => ?_)); exact nomatch h
/-- Every operation determines its results. -/
theorem freshB : ∀ op ∈ opsB (F := F), op.fresh = ∅ := by intro _ h; (repeat (cases h with | head => rfl | tail _ h => ?_)); exact nomatch h
/-- Every operation determines its results. -/
theorem freshC : ∀ op ∈ opsC (F := F), op.fresh = ∅ := by intro _ h; (repeat (cases h with | head => rfl | tail _ h => ?_)); exact nomatch h

variable (m : (ℓ : Loc nD τ sig) → Buf (Elt F) ℓ) (ρ : Dev nD → PrngReg)

/-- The arrays at the launch; -/
def V0 (d : Dev nD) : Valuation τ sig (Elt F) := fun b => m (d, b)
/-- before the region; -/
def VA (d : Dev nD) : Valuation τ sig (Elt F) := after opsA (V0 m d)
/-- the same, core by core and array by array; -/
abbrev VAr (d : Dev nD) (b : Ref sig .tc) : Buf (Elt F) ((d : Thread nD τ).loc b) := VA m d (rf b)
/-- after the region; -/
def VB (d : Dev nD) : Valuation τ sig (Elt F) := Function.update (VA m d) (rf main_v1) (result (VAr m) d)
abbrev VBr (d : Dev nD) (b : Ref sig .tc) : Buf (Elt F) ((d : Thread nD τ).loc b) := VB m d (rf b)
/-- before the SparseCore call; -/
def VC (d : Dev nD) : Valuation τ sig (Elt F) := after opsB (VB m d)
/-- The flat input the call reads. -/
def Xd (d : Dev nD) : Vec F S33554432 .f32 := VC m d (rf main_v4)
/-- The bin width's sixteen words the call reads. -/
def Wd (d : Dev nD) : Vec F S16 .f32 := VC m d (rf main_v5)
/-- after the call; -/
def VD (d : Dev nD) : Valuation τ sig (Elt F) := Function.update (VC m d) (rf main_v6) (OUT (Xd m d) (Wd m d))
/-- at the end. -/
def VE (d : Dev nD) : Valuation τ sig (Elt F) := after opsC (VD m d)

/-- The region leaves its result in its array, -/
theorem VB_v1 (d : Dev nD) : VBr m d main_v1 = result (VAr m) d := Function.update_self _ _ _
/-- and every other array as it was. -/
theorem VB_ne (d : Dev nD) (b : Ref sig .tc) (h : b ≠ main_v1) : VBr m d b = VAr m d b :=
  Function.update_of_ne (fun e => h (Proc.devRef_injective _ e)) _ _
/-- The call leaves the partial counts in their array, -/
theorem VD_v6 (d : Dev nD) : VD m d (rf main_v6) = OUT (Xd m d) (Wd m d) := Function.update_self _ _ _
/-- and every other array as it was. -/
theorem VD_ne (d : Dev nD) (b : DevRef τ sig) (h : b ≠ rf main_v6) : VD m d b = VC m d b := Function.update_of_ne h _ _

/-- The region's input is the argument, reshaped to rows. -/
theorem VA_v0 (d : Dev nD) : VA m d (rf main_v0) = shapeCast S8192x4096 (m (d, rf main_arg0) : Vec F S4x2048x4096 .f32) shapeCasts_S4x2048x4096_S8192x4096 := by
  unfold VA; after_results_simp <;> rfl
/-- The argument is unchanged before the region. -/
theorem VA_arg0 (d : Dev nD) : VA m d (rf main_arg0) = m (d, rf main_arg0) := by
  unfold VA; after_results_simp <;> rfl
/-- The array of the partial counts is untouched before the region. -/
theorem VA_v6 (d : Dev nD) : VA m d (rf main_v6) = m (d, rf main_v6) := by
  unfold VA; after_results_simp <;> rfl

/-- The largest absolute value the region leaves. -/
def xmax (d : Dev nD) : F .f32 := chain (shapeCast S8192x4096 (m (d, rf main_arg0) : Vec F S4x2048x4096 .f32) shapeCasts_S4x2048x4096_S8192x4096) 15
/-- The bin width. -/
def width (d : Dev nD) : Vec F S_ .f32 := Host.divf (fun _ => xmax m d) (constant S_ .f32 0x45000000#32)

/-- The region's result is the largest absolute value. -/
theorem result_eq (d : Dev nD) : result (VAr m) d = (fun _ => xmax m d : Vec F S1x1 .f32) := by
  unfold result xmax; rw [← VA_v0]; rfl

/-- After the region its array holds the largest absolute value. -/
theorem VB_v1' (d : Dev nD) : VB m d (rf main_v1) = (fun _ => xmax m d : Vec F S1x1 .f32) := (VB_v1 m d).trans (result_eq m d)

/-- Before the call the width is computed, -/
theorem VC_v3 (d : Dev nD) : VC m d (rf main_v3) = width m d := by
  unfold VC; after_results_simp
  all_goals first
    | (rw [VB_v1']; rfl)
    | rfl
/-- broadcast to sixteen lanes, -/
theorem VC_v5 (d : Dev nD) : VC m d (rf main_v5) = broadcastInDim S16 ![] bcast_S_S16 (width m d) := by
  unfold VC; after_results_simp
  all_goals first
    | (rw [VB_v1']; rfl)
    | rfl
/-- and the argument reshaped to one row; -/
theorem VC_v4 (d : Dev nD) : VC m d (rf main_v4) = shapeCast S33554432 (m (d, rf main_arg0) : Vec F S4x2048x4096 .f32) shapeCasts_S4x2048x4096_S33554432 := by
  unfold VC; after_results_simp
  all_goals first
    | (rw [show VB m d (rf main_arg0) = m (d, rf main_arg0) from (VB_ne m d main_arg0 (by decide)).trans (VA_arg0 m d)]; rfl)
    | rfl
/-- the array of the partial counts is still untouched, -/
theorem VC_v6 (d : Dev nD) : VC m d (rf main_v6) = m (oLoc d) := by
  unfold VC; after_results_simp
  all_goals first
    | exact (VB_ne m d main_v6 (by decide)).trans (VA_v6 m d)
    | rfl
/-- and so is the argument. -/
theorem VC_arg0 (d : Dev nD) : VC m d (rf main_arg0) = m (d, rf main_arg0) := by
  unfold VC; after_results_simp
  all_goals first
    | exact (VB_ne m d main_arg0 (by decide)).trans (VA_arg0 m d)
    | rfl

/-- At the end the argument is unchanged, -/
theorem VE_arg0 (d : Dev nD) : VE m d (rf main_arg0) = m (d, rf main_arg0) := by
  unfold VE; after_results_simp
  all_goals first
    | exact (VD_ne m d _ (by decide)).trans (VC_arg0 m d)
    | rfl
/-- the first result is the sum of the partial counts, -/
theorem VE_v7 (d : Dev nD) : VE m d (rf main_v7)
    = Host.reduceAdd (OUT (Xd m d) (Wd m d)) (constant S_ .f32 0x00000000#32) reducesTo_S32x2048_S2048_d0 h_S_ := by
  unfold VE; after_results_simp
  all_goals first
    | (rw [VD_v6])
    | rfl
/-- and the second each edge's number times the width. -/
theorem VE_v10 (d : Dev nD) : VE m d (rf main_v10)
    = mulf (sitofp .f32 (iotaInDim S2049 32 0)) (broadcastInDim S2049 ![] bcast_S_S2049 (width m d)) := by
  unfold VE; after_results_simp
  all_goals first
    | (rw [(VD_ne m d (rf main_v3) (by decide)).trans (VC_v3 m d)])
    | rfl

/-! ## The tasks -/

abbrev Pm : (K (F := F)).Pay (nD := nD) (Val := Elt F) (Name := ℕ) (U := UU) := P (Xd m) (Wd m) m

/-- The coordinates of the task on (SparseCore `c`, tile `s`). -/
def coordsV (c : Fin (grid1.bound 0)) (s : Fin (grid1.bound 1)) : grid1.Coords :=
  fun | 0 => c | 1 => s | ⟨_ + 2, h⟩ => absurd h (Nat.not_lt.2 (Nat.le_add_left _ _))

/-- The body every tile runs. -/
theorem defs₀_vector (c : Fin τ.nSC) (s : Fin τ.nSub) :
    defs₀ (F := F) (.scVector c s) 1 ()
      = SparseCore.onTile hcore1 hsub1 (fun c s => cc1_body (coordsV c s)
          (Memref.whole main_v4_scv) (Memref.isWhole_whole _) (Memref.whole main_v5_scv) (Memref.isWhole_whole _) (Memref.whole main_v6_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) cc1_scoped0 cc1_scoped1 cc1_scoped2) ⟨⟩ c s := rfl

/-- Every tile keeps the call's contract. -/
theorem tileObl (hok : ∀ d, ∀ v : Vec F S16 .f32, k1_chk1 (k1_pay3 (Wd m d) v)) (hF : (K (F := F)).Facts) :
    (K (F := F)).TileObl (D (F := F)) 𝒱 (Pm m) v₀ 0 := by
  intro d c i O W hO _ _
  simp only [show (Pm m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (Xd m) (Wd m) m (hok d) hF O W hO

/-- What the call hands a SparseCore is what its tiles are handed. -/
theorem vecSplit : (K (F := F)).VecSplit' (Pm m) 0 := by
  intro d c
  show (bigSep Finset.univ fun i : Fin ((K (F := F)).nSub 0) => inPts (Xd m) (Wd m) m d (tileNo (Fin.cast nCore_zero c) (Fin.cast nSub_zero i)))
    ⊢ |={Set.univ}=> iprop((bigSep Finset.univ fun i : Fin ((K (F := F)).nSub 0) => inPts (Xd m) (Wd m) m d (tileNo (Fin.cast nCore_zero c) (Fin.cast nSub_zero i)))
      ∗ ((bigSep Finset.univ fun i : Fin ((K (F := F)).nSub 0) => outPts (Xd m) (Wd m) d (tileNo (Fin.cast nCore_zero c) (Fin.cast nSub_zero i)))
          -∗ (bigSep Finset.univ fun i : Fin ((K (F := F)).nSub 0) => outPts (Xd m) (Wd m) d (tileNo (Fin.cast nCore_zero c) (Fin.cast nSub_zero i)))))
  iintro H; imodintro
  isplitl [H]; · iexact H
  iintro H; iexact H

/-! ## The partial counts' rows split and join -/

/-- A task's part of the partial counts is its row. -/
theorem rowSet_eq (i : Fin 32) : rowSet i = (row i).set := by
  show ((View.whole (main_v6_scv : Ref sig .scVector)).slice (row i)).set = _
  rw [View.set_slice]; exact Finset.map_refl
/-- Different rows are disjoint. -/
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
/-- The rows are the whole array. -/
theorem rows_cover : (Finset.univ : Finset (Fin 32)).biUnion rowSet = Finset.univ :=
  (Finset.biUnion_congr rfl fun i _ => rowSet_eq i).trans (Rect.biUnion_part hdiv)

/-- Holding the partial counts is holding each row. -/
theorem oPts_rows (d : Dev nD) (f : Buf (Elt F) (oLoc d)) :
    (oLoc d ↦{fullShare} f : sProp 𝕄) = bigSep Finset.univ fun i : Fin 32 => oLoc d ↦[rowSet i]{fullShare} f := by
  rw [← pointsTo_biUnion Finset.univ (ℓ := oLoc d) rowSet rows_disjoint, rows_cover]; try rfl
/-- Holding the input is holding a read share of it for each task. -/
theorem xPts_deal (d : Dev nD) (f : Buf (Elt F) (xLoc d)) :
    (xLoc d ↦{fullShare} f : sProp 𝕄) = bigSep Finset.univ fun i : Fin 32 => xLoc d ↦{rq i} f :=
  Transfers.pointsTo_deal Finset.univ Finset.univ_nonempty fullShare
/-- Holding the width is holding a read share of it for each task. -/
theorem wPts_deal (d : Dev nD) (f : Buf (Elt F) (wLoc d)) :
    (wLoc d ↦{fullShare} f : sProp 𝕄) = bigSep Finset.univ fun i : Fin 32 => wLoc d ↦{rq i} f :=
  Transfers.pointsTo_deal Finset.univ Finset.univ_nonempty fullShare

/-- Two SparseCores' sixteen tasks each are the thirty-two tasks. -/
theorem bigSep_tasks (Φ : Fin 32 → sProp 𝕄) :
    (bigSep Finset.univ fun c : Fin ((K (F := F)).nCore 0) => bigSep Finset.univ fun i : Fin ((K (F := F)).nSub 0) =>
      Φ (tileNo (Fin.cast nCore_zero c) (Fin.cast nSub_zero i))) = bigSep Finset.univ Φ := by
  rw [bigSep_univ_equiv (finProdFinEquiv : Fin 2 × Fin 16 ≃ Fin 32) Φ, bigSep_univ_prod]
  show (bigSep (Finset.univ : Finset (Fin 2)) fun c => bigSep (Finset.univ : Finset (Fin 16)) fun i => Φ (tileNo c i)) = _
  exact bigSep_congr fun c _ => bigSep_congr fun i _ => congrArg Φ (Fin.ext (show 16 * c.val + i.val = i.val + 16 * c.val by omega))

/-- What the call takes: the input, the width and the partial counts. -/
theorem st0_eq (d : Dev nD) :
    (bigSep Finset.univ fun c : Fin ((K (F := F)).nCore 0) => (Pm m).st 0 d c)
      = iprop((xLoc d ↦{fullShare} Xd m d) ∗ (wLoc d ↦{fullShare} Wd m d) ∗ (oLoc d ↦{fullShare} m (oLoc d))) := by
  rw [xPts_deal, wPts_deal, oPts_rows, ← bigSep_sep', ← bigSep_sep']
  exact bigSep_tasks (fun t => inPts (Xd m) (Wd m) m d t)
/-- What it gives back: the same, the partial counts computed. -/
theorem dn0_eq (d : Dev nD) :
    (bigSep Finset.univ fun c : Fin ((K (F := F)).nCore 0) => (Pm m).dn 0 d c)
      = iprop((xLoc d ↦{fullShare} Xd m d) ∗ (wLoc d ↦{fullShare} Wd m d) ∗ (oLoc d ↦{fullShare} OUT (Xd m d) (Wd m d))) := by
  rw [xPts_deal, wPts_deal, oPts_rows, ← bigSep_sep', ← bigSep_sep']
  exact bigSep_tasks (fun t => outPts (Xd m) (Wd m) d t)

/-! ## The launch element: the handshakes' rounds and the staging cells' -/

/-- The staging cells' rounds, in the program's algebra. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-- The launch's staging part. -/
def uP : UP := initOf (Pipeline.cells (pin (pcfgs (F := F)) adm) cellOf_inj) (Pipeline.launchToks (pin (pcfgs (F := F)) adm) cellOf_inj)
/-- The launch element. -/
def u₀ : UU := (initOf (K (F := F)).hsCells (K (F := F)).hsToks, (uP (F := F), 1))

/-- What the launch deals each TensorCore for the region. -/
abbrev G (d : Dev nD) : sProp 𝕄 := iprop(cellsGhost (pin (pcfgs (F := F)) adm) EP 0 d ∗ toksInit (pin (pcfgs (F := F)) adm) EP 0 d)

/-- Nothing, many times, is nothing. -/
theorem bigSep_emp' {I : Type} (s : Finset I) : (bigSep s fun _ => iprop(emp)) = (iprop(emp) : sProp 𝕄) := bigSep_emp_const s
/-- A conjunction over one index is its one member. -/
theorem bigSep_one (Φ : Fin 1 → sProp 𝕄) : bigSep Finset.univ Φ = Φ 0 := bigSep_univ_of_subsingleton 0

/-- The launch element gives the handshakes their rounds and each TensorCore what its region needs. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair (initOf (K (F := F)).hsCells (K (F := F)).hsToks) ((uP (F := F), 1) : UP × Counters)) $$ Hu
  icases H with ⟨HH, HR⟩
  ihave H := (own_pair_emb (embR : Emb (UP × Counters) 𝕄) (uP (F := F)) (1 : Counters)) $$ HR
  icases H with ⟨HP0, -⟩
  ihave HP := (show (BI.own (((Emb.inl : Emb UP (UP × Counters)).trans (embR : Emb (UP × Counters) 𝕄)) (uP (F := F))) : sProp 𝕄)
    ⊢ BI.own (EP (initOf (Pipeline.cells (pin (pcfgs (F := F)) adm) cellOf_inj) (Pipeline.launchToks (pin (pcfgs (F := F)) adm) cellOf_inj))) from Entails.rfl) $$ HP0
  imod (Pipeline.fund_ghost (pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_congr fun c _ => bigSep_one (fun p : Fin 1 => cellsGhost (pin (pcfgs (F := F)) adm) EP p c))) $$ Hg
    iapply (Entails.of_eq (bigSep_congr fun c _ => bigSep_one (fun p : Fin 1 => toksInit (pin (pcfgs (F := F)) adm) EP p c))) $$ Ht
  rw [show (bigSep Finset.univ fun thr : Thread nD τ => bigSep Finset.univ fun q : Fin 1 => (Pm m).x q thr) = bigSep Finset.univ fun _ => iprop(emp) from
    bigSep_congr fun _ _ => bigSep_univ_of_subsingleton (0 : Fin 1), bigSep_emp']
  iempintro

/-! ## The region under the whole program's table -/

/-- What is asked of the elements of an empty option holds. -/
theorem none_all {α : Type} (p : α → Prop) : ∀ u ∈ (none : Option α), p u := fun u hu => (Option.not_mem_none u hu).elim

abbrev regm : Pipeline.RegionSeg (pcfgs (F := F)) adm (pdats (VAr m)) none defs₀ 𝒱₀ (K (F := F)).L (K (F := F)).lev 0 :=
  reg (VAr m) (VBr m) (VB_v1 m) (fun c b h => VB_ne m c b h)

/-- The region's call in the table it was made for. -/
theorem wp_region₀ (d : Dev nD) (Φ : PUnit → sProp 𝕄) :
    iprop((iprop(boundary (d.tc : Thread nD τ) ∗ (regm m).post d) -∗ wp frame (wpE (D (F := F)) 𝒱 (d.tc : Thread nD τ) none) Set.univ (.ret ⟨⟩) Φ)
        ∗ boundary (d.tc : Thread nD τ) ∗ (regm m).pre d ∗ levAts (K (F := F)).L (K (F := F)).lev ∗ cellsGhost (pin (pcfgs (F := F)) adm) EP 0 d ∗ toksInit (pin (pcfgs (F := F)) adm) EP 0 d)
      ⊢ wp frame (wpE (D (F := F)) 𝒱 (d.tc : Thread nD τ) none) Set.univ (.op (.customCall (Pipeline.entry 0) ()) .ret) Φ :=
  Pipeline.RegionSeg.wp (pcfgs (F := F)) adm (pdats (VAr m)) none cellOf_inj EP defs₀ 𝒱₀ (K (F := F)).L (K (F := F)).lev
    (regm m) d none (none_all _) .ret Φ

abbrev callR : Prog (TpuEff nD τ sig (Elt F) (ΛP (F := F)) .tc) PUnit := .op (.customCall (Pipeline.entry 0) ()) .ret

/-- A run of the region's call is one in the program's own table. -/
theorem lift_region (d : Dev nD) (Φ : PUnit → sProp 𝕄) :
    wp frame (wpE (D (F := F)) 𝒱 (d.tc : Thread nD τ) none) Set.univ (callR (F := F)) Φ
      ⊢ wp frame (wpE ((K (F := F)).defs (D (F := F))) 𝒱 (d.tc : Thread nD τ) none) Set.univ
        (Prog.lift (.customCall (SparseCore.inner (Pipeline.entry 0)) ()) : Prog (TpuEff nD τ sig (Elt F) (SparseCore.Sig (ΛP (F := F)) 1) .tc) PUnit) Φ :=
  (K (F := F)).wp_liftProg (D (F := F)) 𝒱 (d.tc : Thread nD τ) Set.univ none (callR (F := F)) Φ

/-- What @main holds at the call is what the region's rule asks for. -/
theorem pre_region (d : Dev nD) (Φ : PUnit → sProp 𝕄) :
    iprop((iprop(boundary (d.tc : Thread nD τ) ∗ unscopedBufs d (VBr m d) ∗ owing (F := F) d) -∗ Φ ⟨⟩)
        ∗ boundary (d.tc : Thread nD τ) ∗ (unscopedBufs d (VAr m d) ∗ owing (F := F) d) ∗ levAts (K (F := F)).L (K (F := F)).lev ∗ G (F := F) d)
      ⊢ iprop((iprop(boundary (d.tc : Thread nD τ) ∗ (regm m).post d) -∗ wp frame (wpE (D (F := F)) 𝒱 (d.tc : Thread nD τ) none) Set.univ (.ret ⟨⟩) Φ)
        ∗ boundary (d.tc : Thread nD τ) ∗ (regm m).pre d ∗ levAts (K (F := F)).L (K (F := F)).lev ∗ cellsGhost (pin (pcfgs (F := F)) adm) EP 0 d ∗ toksInit (pin (pcfgs (F := F)) adm) EP 0 d) := by
  show _ ⊢ iprop((iprop(boundary (d.tc : Thread nD τ) ∗ (unscopedBufs d (VBr m d) ∗ owing (F := F) d)) -∗ wp frame (wpE (D (F := F)) 𝒱 (d.tc : Thread nD τ) none) Set.univ (.ret ⟨⟩) Φ)
        ∗ boundary (d.tc : Thread nD τ) ∗ (unscopedBufs d (VAr m d) ∗ owing (F := F) d) ∗ levAts (K (F := F)).L (K (F := F)).lev ∗ cellsGhost (pin (pcfgs (F := F)) adm) EP 0 d ∗ toksInit (pin (pcfgs (F := F)) adm) EP 0 d)
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

/-- The region's call in the program's own table: from the arrays as they are before it to the arrays as they are after it. -/
theorem wp_region (d : Dev nD) (Φ : PUnit → sProp 𝕄) :
    iprop((iprop(boundary (d.tc : Thread nD τ) ∗ unscopedBufs d (VBr m d) ∗ owing (F := F) d) -∗ Φ ⟨⟩)
        ∗ boundary (d.tc : Thread nD τ) ∗ (unscopedBufs d (VAr m d) ∗ owing (F := F) d) ∗ levAts (K (F := F)).L (K (F := F)).lev ∗ G (F := F) d)
      ⊢ wp frame (wpE ((K (F := F)).defs (D (F := F))) 𝒱 (d.tc : Thread nD τ) none) Set.univ
        (Prog.lift (.customCall (SparseCore.inner (Pipeline.entry 0)) ()) : Prog (TpuEff nD τ sig (Elt F) (SparseCore.Sig (ΛP (F := F)) 1) .tc) PUnit) Φ :=
  (pre_region m d Φ).trans ((wp_region₀ m d Φ).trans (lift_region d Φ))

/-! ## @main on the TensorCore -/

/-- What the thread owes the SparseCores, taken out of its state before the call and put back. -/
theorem tcSt_owing (d : Dev nD) : ((K (F := F)).tcSt EH d 0 : sProp 𝕄) ⊢ iprop(owing (F := F) d ∗ (owing (F := F) d -∗ (K (F := F)).tcSt EH d 0)) := by
  unfold SparseCore.Cfg.tcSt
  rw [show 8 * SparseCore.Cfg.Blocks.fst 1 1 0 = 0 from rfl]
  iintro ⟨HO, Hr⟩
  isplitl [HO]; · iexact HO
  iintro HO
  isplitl [HO]; · iexact HO
  iexact Hr

/-- The three arrays the call takes. -/
abbrev S3 : Finset (DevRef τ sig) := {rf main_v4, rf main_v5, rf main_v6}
/-- They are arrays that @main holds. -/
theorem S3_sub : S3 ⊆ Pipeline.ucRefs τ sig := fun b hb => by
  simp only [S3, Finset.mem_insert, Finset.mem_singleton] at hb
  rcases hb with rfl | rfl | rfl <;> exact Finset.mem_filter.mpr ⟨StableHlo.devRef_mem_tcRefs _, by decide⟩
/-- Holding the three is holding each. -/
theorem held_S3 (d : Dev nD) (W : Valuation τ sig (Elt F)) :
    (held (d.tc : Thread nD τ) S3 W : sProp 𝕄) = iprop((xLoc d ↦{fullShare} W (rf main_v4)) ∗ (wLoc d ↦{fullShare} W (rf main_v5)) ∗ (oLoc d ↦{fullShare} W (rf main_v6))) := by
  unfold held S3
  rw [SparseCore.bigSep_insert' (by decide), SparseCore.bigSep_insert' (by decide), bigSep_singleton]

/-- The arrays before the call: the three and the others. -/
theorem held_VC (d : Dev nD) : (held (d.tc : Thread nD τ) (Pipeline.ucRefs τ sig) (VC m d) : sProp 𝕄)
    = iprop(((xLoc d ↦{fullShare} Xd m d) ∗ (wLoc d ↦{fullShare} Wd m d) ∗ (oLoc d ↦{fullShare} m (oLoc d)))
      ∗ held (d.tc : Thread nD τ) (Pipeline.ucRefs τ sig \ S3) (VC m d)) := by
  rw [StableHlo.held_sub_split _ S3_sub, held_S3, VC_v6]; rfl
/-- The arrays after the call: the three and the others, which it leaves. -/
theorem held_VD (d : Dev nD) : (held (d.tc : Thread nD τ) (Pipeline.ucRefs τ sig) (VD m d) : sProp 𝕄)
    = iprop(((xLoc d ↦{fullShare} Xd m d) ∗ (wLoc d ↦{fullShare} Wd m d) ∗ (oLoc d ↦{fullShare} OUT (Xd m d) (Wd m d)))
      ∗ held (d.tc : Thread nD τ) (Pipeline.ucRefs τ sig \ S3) (VC m d)) := by
  rw [StableHlo.held_sub_split _ S3_sub, held_S3, VD_v6, VD_ne m d (rf main_v4) (by decide), VD_ne m d (rf main_v5) (by decide),
    StableHlo.held_congr (d.tc : Thread nD τ) (S := Pipeline.ucRefs τ sig \ S3) (V := VD m d) (V' := VC m d) fun b hb => VD_ne m d b fun h => (Finset.mem_sdiff.mp hb).2 (by rw [h]; decide)]
  rfl

/-- The argument and the two results. -/
abbrev S2 : Finset (DevRef τ sig) := {rf main_arg0, rf main_v7, rf main_v10}
/-- They are arrays that @main holds. -/
theorem S2_sub : S2 ⊆ Pipeline.ucRefs τ sig := fun b hb => by
  simp only [S2, Finset.mem_insert, Finset.mem_singleton] at hb
  rcases hb with rfl | rfl | rfl <;> exact Finset.mem_filter.mpr ⟨StableHlo.devRef_mem_tcRefs _, by decide⟩

abbrev aLoc (d : Dev nD) : Loc nD τ sig := (d.tc : Thread nD τ).loc main_arg0
abbrev hLoc (d : Dev nD) : Loc nD τ sig := (d.tc : Thread nD τ).loc main_v7
abbrev eLoc (d : Dev nD) : Loc nD τ sig := (d.tc : Thread nD τ).loc main_v10

/-- What @main leaves the claim: the argument and the two results at their final contents. -/
abbrev FIN (d : Dev nD) : sProp 𝕄 :=
  iprop((aLoc d ↦{fullShare} VE m d (rf main_arg0)) ∗ (hLoc d ↦{fullShare} VE m d (rf main_v7)) ∗ (eLoc d ↦{fullShare} VE m d (rf main_v10)))

/-- The arrays at the end: the argument, the two results and the others. -/
theorem held_VE (d : Dev nD) : (held (d.tc : Thread nD τ) (Pipeline.ucRefs τ sig) (VE m d) : sProp 𝕄)
    = iprop(FIN m d ∗ held (d.tc : Thread nD τ) (Pipeline.ucRefs τ sig \ S2) (VE m d)) := by
  rw [StableHlo.held_sub_split _ S2_sub]
  congr 1
  unfold held S2
  rw [SparseCore.bigSep_insert' (by decide), SparseCore.bigSep_insert' (by decide), bigSep_singleton]

/-- A device's arrays at the start, as the host operations' rule takes them; -/
theorem unscoped_V0 (d : Dev nD) : (unscopedBufs d (fun b => m ((d.tc : Thread nD τ).loc b)) : sProp 𝕄) = held (d.tc : Thread nD τ) (Pipeline.ucRefs τ sig) (V0 m d) :=
  Pipeline.unscopedBufs_held d (V0 m d)
/-- those before the region; -/
theorem unscoped_VA (d : Dev nD) : (unscopedBufs d (VAr m d) : sProp 𝕄) = held (d.tc : Thread nD τ) (Pipeline.ucRefs τ sig) (VA m d) :=
  Pipeline.unscopedBufs_held d (VA m d)
/-- and those after it. -/
theorem unscoped_VB (d : Dev nD) : (unscopedBufs d (VBr m d) : sProp 𝕄) = held (d.tc : Thread nD τ) (Pipeline.ucRefs τ sig) (VB m d) :=
  Pipeline.unscopedBufs_held d (VB m d)

/-- @main on device `d`'s TensorCore: the operations, the region and the call in order. -/
theorem hmain (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) (Pipeline.ucRefs τ sig) (V0 m d) from unscoped_V0 m d]
  iintro ⟨#Hctx, Hst, ⟨Hb, Hheld, Hts, -⟩, HG⟩
  iapply (StableHlo.wp_seq 𝒱 none Set.univ d (Pipeline.ucRefs τ sig) _ opsA subA freshA (V0 m d)) $$ [Hb Hheld]
  · isplitl [Hb]; · iexact Hb
    iexact Hheld
  iintro ⟨Hb, Hheld⟩
  rw [wp_bind]
  ihave HO := (tcSt_owing d) $$ Hst
  icases HO with ⟨HO, Hst⟩
  ihave Hlev := (SparseCore.Cfg.ctx_levAts κ) $$ Hctx
  iapply (wp_region m d) $$ [-]
  isplitr [Hb Hheld HO Hlev HG]
  · iintro ⟨Hb, Hub, HO⟩
    ihave Hst := Hst $$ HO
    ihave Hheld := (Entails.of_eq (unscoped_VB m d)) $$ Hub
    iapply (StableHlo.wp_seq 𝒱 none Set.univ d (Pipeline.ucRefs τ sig) _ opsB subB freshB (VB m d)) $$ [Hb Hheld]
    · isplitl [Hb]; · iexact Hb
      iexact Hheld
    iintro ⟨Hb, Hheld⟩
    ihave Hh := (show (held (d.tc : Thread nD τ) (Pipeline.ucRefs τ sig) (after opsB (VB m d)) : sProp 𝕄) ⊢ _ from Entails.of_eq (held_VC m d)) $$ Hheld
    icases Hh with ⟨H3, Hrest⟩
    rw [wp_bind]
    iapply ((K (F := F)).wp_run (D (F := F)) 𝒱 (EH := EH) (P := Pm m) κ d 0) $$ [-]
    isplitr; · iexact Hctx
    isplitl [Hst]; · iexact Hst
    isplitl [H3]
    · rw [st0_eq]; iexact H3
    iintro ⟨Hst, Hdn⟩
    ihave H3 := (Entails.of_eq (dn0_eq m d)) $$ Hdn
    iapply (StableHlo.wp_seq 𝒱 none Set.univ d (Pipeline.ucRefs τ sig) _ opsC subC freshC (VD m d)) $$ [Hb H3 Hrest]
    · isplitl [Hb]; · iexact Hb
      iapply (Entails.of_eq (held_VD m d).symm)
      isplitl [H3]; · iexact H3
      iexact Hrest
    iintro ⟨Hb, Hheld⟩
    ihave Hh := (show (held (d.tc : Thread nD τ) (Pipeline.ucRefs τ sig) (after opsC (VD m d)) : sProp 𝕄) ⊢ _ from Entails.of_eq (held_VE m d)) $$ Hheld
    icases Hh with ⟨HF, -⟩
    rw [wp_pure]; imodintro
    isplitl [Hst]; · iexact Hst
    isplitl [HF]; · iexact HF
    isplitl [Hb]; · iexact Hb
    iexact Hts
  isplitl [Hb]; · iexact Hb
  isplitl [Hheld HO]
  · isplitl [Hheld]
    · iapply (Entails.of_eq (unscoped_VA m d).symm); iexact Hheld
    iexact HO
  isplitl [Hlev]; · iexact Hlev
  iexact HG

/-- What the final memory holds on device `d`. -/
def fq (d : Dev nD) (s' : Phys nD τ sig (Elt F)) : Prop :=
  s'.mem.mem (aLoc d) = VE m d (rf main_arg0) ∧ s'.mem.mem (hLoc d) = VE m d (rf main_v7) ∧ s'.mem.mem (eLoc d) = VE m d (rf main_v10)

/-- Held contents are those of the final memory. -/
theorem hfin (d : Dev nD) (s' : Phys nD τ sig (Elt F)) : iprop(FIN m d ∗ SI s') ⊢ (⌜fq m d s'⌝ : sProp 𝕄) := by
  iintro ⟨⟨Ha, Hh, He⟩, HSI⟩
  ihave H := (persistent_entails_right (SI_pointsTo_agree (st := s') (ℓ := aLoc d) (I := Finset.univ) (q := fullShare) (f := VE m d (rf main_arg0)))) $$ [HSI Ha]
  · isplitl [HSI] <;> iassumption
  icases H with ⟨%ha, HSI, -⟩
  ihave H := (persistent_entails_right (SI_pointsTo_agree (st := s') (ℓ := hLoc d) (I := Finset.univ) (q := fullShare) (f := VE m d (rf main_v7)))) $$ [HSI Hh]
  · isplitl [HSI] <;> iassumption
  icases H with ⟨%hh, HSI, -⟩
  ihave H := (SI_pointsTo_agree (st := s') (ℓ := eLoc d) (I := Finset.univ) (q := fullShare) (f := VE m d (rf main_v10))) $$ [HSI He]
  · isplitl [HSI] <;> iassumption
  icases H with %he
  ipureintro
  exact ⟨funext fun i => ha i (Finset.mem_univ i), funext fun i => hh i (Finset.mem_univ i), funext fun i => he i (Finset.mem_univ i)⟩

/-! ## The program's run -/

/-- What a final state satisfies: the argument unchanged, the two results, every counter at zero. -/
def QC : PUnit × MemSt nD τ sig (Elt F) → Prop := fun r =>
  (∀ d : Dev nD, r.2.mem (aLoc d) = m (aLoc d)
    ∧ r.2.mem (hLoc d) = Host.reduceAdd (OUT (Xd m d) (Wd m d)) (constant S_ .f32 0x00000000#32) reducesTo_S32x2048_S2048_d0 h_S_
    ∧ r.2.mem (eLoc d) = mulf (sitofp .f32 (iotaInDim S2049 32 0)) (broadcastInDim S2049 ![] bcast_S_S2049 (width m d)))
  ∧ r.2.sem = fun _ => 0

/-- Every execution terminates without a fault and ends as `QC` says, when no counting step's index leaves the counters. -/
theorem run_main (hok : ∀ d, ∀ v : Vec F S16 .f32, k1_chk1 (k1_pay3 (Wd m d) v)) :
    θ_run (defs (F := F)) (threads (F := F)) ⟨m, fun _ => 0, ρ⟩ (QC m) := by
  haveI : ∀ e, Nonempty (Elt F e) := fun e => Elt.nonempty F e
  exact SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl m hok facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m)
    (fun _ h hz => ⟨fun d => ⟨(h d).1.trans (VE_arg0 m d), (h d).2.1.trans (VE_v7 m d), (h d).2.2.trans (VE_v10 m d)⟩, hz⟩)

end Cert.KernelIdeal.Own

end
-- ==== Proof.KernelIdealWords.lean ====
/-
  The word a lane counts at: its number times 2048 and its element's quotient, clamped from above. Over the extended reals and at a
  positive width the quotient is not negative, so this clamp alone gives the bin.
-/
module

public import proofs.«01_k».proof.Proof.KernelIdealRun
public import proofs.«01_k».proof.Proof.Bins

@[expose] public section

noncomputable section

namespace Cert.KernelIdeal.Own

open Cert.KernelIdeal Cert.KernelIdeal.Gen Cert.Bins
open Idealize.ShloMosaic

section Words

variable {F : FTy → Type} [FloatOps F] (W v : Vec F S16 .f32)

/-- The word of one lane. -/
theorem pay3_at (x : S16.Idx) :
    k1_pay3 W v x = IntOp.addi (IntOp.muli (BitVec.ofNat 32 (x 0).val) 2048#32)
      (IntOp.minsi (FloatOps.fptosi 32 (FloatOps.divf (FloatOps.absf (v x)) (W x))) 2047#32) := by
  have e : iota .scVector S16 32 [0] iota_S16_d0_w32_scVector x = BitVec.ofNat 32 (x 0).val :=
    congrArg (BitVec.ofNat 32) (Nat.add_eq_right.2 (Nat.zero_mul _))
  rw [← e]
  rfl

end Words

/-- Over the extended reals it is the bin of the lane's element at the positive width every lane holds. -/
theorem pay_bin (W : Vec Ideal S16 .f32) (w : EReal) (hW : ∀ x, (W x : EReal) = w) (hw : 0 < w) (v : Vec Ideal S16 .f32) (x : S16.Idx) :
    (k1_pay3 (F := Ideal) W v x).toNat = 2048 * (x 0).val + binOf w (v x) := by
  have h1 : (x 0).val < 16 := (x 0).isLt
  have e : (FloatOps.fptosi (F := Ideal) 32 (FloatOps.divf (F := Ideal) (φ := .f32) (FloatOps.absf (v x)) (W x)))
      = Ideal.fptosi 32 (Ideal.div (max (v x : EReal) (-(v x))) w) := by rw [hW]; rfl
  rw [pay3_at, e, clampW_of_nonneg _ (fptosi_nonneg (div_abs_nonneg (v x) hw)), lane_index _ h1]
  rfl

end Cert.KernelIdeal.Own

end
-- ==== Proof.KernelIdealValue.lean ====
/-
  What the kernel's two results are over the extended reals: every bin's counter is the number of elements whose bin it is, and the
  running maximum of the sixteen blocks is the largest absolute value of the input.
-/
module

public import proofs.«01_k».proof.Proof.KernelIdealRun
public import proofs.«01_k».proof.Proof.Bins

@[expose] public section

noncomputable section

namespace Cert.KernelIdeal.Own

open Cert.KernelIdeal Cert.KernelIdeal.Gen Cert.Bins
open Idealize.ShloMosaic Idealize.ShloMosaic.ValueIdx Idealize.ShloMosaic.Ideal

/-! ## The counts -/

section Counts

variable (X : Vec Ideal S33554432 .f32) (W : Vec Ideal S16 .f32) (w : EReal)
  (hpay : ∀ (v : Vec Ideal S16 .f32) (x : S16.Idx), (k1_pay3 (F := Ideal) W v x).toNat = 2048 * (x 0).val + binOf w (v x))

include hpay

/-- Every lane's index is inside the private rows. -/
theorem chk_of_pay (v : Vec Ideal S16 .f32) : k1_chk1 (k1_pay3 (F := Ideal) W v) := by
  intro a x
  have ha : a = 0 := Subsingleton.elim (α := Fin 1) a 0
  subst ha
  have h := hpay v x
  have h1 : (x 0).val < 16 := (x 0).isLt
  have h2 := binOf_lt w (v x)
  show (k1_pay3 (F := Ideal) W v x).toNat < 32768
  omega

/-- One counting step, read at a counter. -/
theorem histStep_at (g : Vec Ideal S32768 .f32) (v : Vec Ideal S16 .f32) (j : S32768.Idx) :
    (histStep W g v j : EReal) = g j + ∑ l : Fin 16, if (j 0).val = 2048 * l.val + binOf w (v (Shape.ofLane (d := ![16]) l)) then (1 : EReal) else 0 := by
  unfold histStep
  rw [dif_pos (chk_of_pay W w hpay v)]
  refine (storeIdx_add g (k1_pay3 (F := Ideal) W v) (k1_pay1 (F := Ideal)) (fun x => ofBits_one_f32) _ j).trans ?_
  congr 1
  refine Finset.sum_congr rfl fun l _ => ?_
  rw [hpay]
  rfl

/-- The counters after `n` steps. -/
theorem histN_at (b n : ℕ) (j : S32768.Idx) :
    (histN X W b n j : EReal) = ∑ k ∈ Finset.range n, ∑ l ∈ Finset.range 16,
      if (j 0).val = 2048 * l + binOf w (at1 X (b + 16 * k + l)) then (1 : EReal) else 0 := by
  induction n with
  | zero =>
    exact (Ideal.ofBits_zero_f32).trans (by rw [Finset.range_zero, Finset.sum_empty])
  | succ n ih =>
    rw [Finset.sum_range_succ, ← ih]
    refine (histStep_at W w hpay (histN X W b n) (lanes X (b + 16 * n)) j).trans ?_
    refine congrArg (fun t : EReal => (histN X W b n j : EReal) + t) ?_
    exact Fin.sum_univ_eq_sum_range (fun l => if (j 0).val = 2048 * l + binOf w (at1 X (b + 16 * n + l)) then (1 : EReal) else 0) 16

/-- One private row's counter for the bin `c`. -/
theorem at2_histN (b n r c : ℕ) (hr : r < 16) (hc : c < 2048) :
    (at2 (histN X W b n) (2048 * r + c) : EReal) = ∑ k ∈ Finset.range n, ∑ l ∈ Finset.range 16,
      if 2048 * r + c = 2048 * l + binOf w (at1 X (b + 16 * k + l)) then (1 : EReal) else 0 := by
  unfold at2
  rw [histN_at X W w hpay]
  have e : ∀ (n : ℕ) (hn : n % 32768 < 32768), ((Shape.ofLane (d := ![32768]) (⟨n % 32768, hn⟩ : Fin 32768)) 0).val = n % 32768 := fun _ _ => rfl
  have : (2048 * r + c) % 32768 = 2048 * r + c := Nat.mod_eq_of_lt (by omega)
  refine Finset.sum_congr rfl fun k _ => Finset.sum_congr rfl fun l _ => ?_
  refine if_congr ?_ rfl rfl
  rw [e, this]

omit hpay in
/-- The sum of the first rows, as a sum. -/
theorem laneSum_eq (g : Vec Ideal S32768 .f32) (r c : ℕ) :
    (laneSum g r c : EReal) = ∑ i ∈ Finset.range (r + 1), (at2 g (2048 * i + c) : EReal) := by
  induction r with
  | zero => rw [Finset.sum_range_one, Nat.mul_zero, Nat.zero_add]; rfl
  | succ r ih =>
    rw [Finset.sum_range_succ, ← ih]
    show (laneSum g r c : EReal) + at2 g (2048 * r + c + 2048) = _
    rw [show 2048 * r + c + 2048 = 2048 * (r + 1) + c by ring]

/-- What a task leaves at a bin: the number of its elements in that bin. -/
theorem partial1_eq (t c : ℕ) (hc : c < 2048) :
    (partial1 X W t c : EReal) = ∑ p ∈ Finset.range 1048576, if binOf w (at1 X (1048576 * t + p)) = c then (1 : EReal) else 0 := by
  unfold partial1
  rw [laneSum_eq]
  have h1 : ∀ r ∈ Finset.range (15 + 1), (at2 (histN X W (1048576 * t) 65536) (2048 * r + c) : EReal)
      = ∑ k ∈ Finset.range 65536, ∑ l ∈ Finset.range 16,
        if 2048 * r + c = 2048 * l + binOf w (at1 X (1048576 * t + 16 * k + l)) then (1 : EReal) else 0 := fun r hr =>
    at2_histN X W w hpay _ _ r c (Finset.mem_range.1 hr) hc
  rw [Finset.sum_congr rfl h1, Finset.sum_comm]
  have h2 : ∀ k ∈ Finset.range 65536, (∑ r ∈ Finset.range (15 + 1), ∑ l ∈ Finset.range 16,
        if 2048 * r + c = 2048 * l + binOf w (at1 X (1048576 * t + 16 * k + l)) then (1 : EReal) else 0)
      = ∑ l ∈ Finset.range 16, if binOf w (at1 X (1048576 * t + (16 * k + l))) = c then (1 : EReal) else 0 := fun k _ => by
    refine (sum_lanes c hc (fun l => binOf w (at1 X (1048576 * t + 16 * k + l))) (fun l => binOf_lt _ _)).trans ?_
    exact Finset.sum_congr rfl fun l _ => by rw [Nat.add_assoc]
  rw [Finset.sum_congr rfl h2]
  exact sum_groups (fun p => if binOf w (at1 X (1048576 * t + p)) = c then (1 : EReal) else 0) 16 65536

/-- The first result at a bin: the number of all the elements in that bin. -/
theorem counts_eq (i : S2048.Idx) :
    (Host.reduceAdd (OUT X W) (constant S_ .f32 0x00000000#32) reducesTo_S32x2048_S2048_d0 h_S_ i : EReal)
      = ∑ p ∈ Finset.range 33554432, if binOf w (at1 X p) = (i 0).val then (1 : EReal) else 0 := by
  have hR : S32x2048.Reduces [0] S2048 := by decide
  rw [hostReduceAdd_apply, Ideal.hostReduceAdd_single reducesTo_S32x2048_S2048_d0 hR]
  have h0 : (constant S_ .f32 0x00000000#32 (Shape.Idx.first h_S_) : Ideal .f32) = (0 : EReal) := Ideal.ofBits_zero_f32
  rw [h0, zero_add]
  have hc : (i 0).val < 2048 := (i 0).isLt
  have h1 : ∀ k : Fin 32, (OUT X W (hR.lift i k) : EReal)
      = ∑ p ∈ Finset.range 1048576, if binOf w (at1 X (1048576 * k.val + p)) = (i 0).val then (1 : EReal) else 0 := fun k =>
    partial1_eq X W w hpay k.val (i 0).val hc
  refine (Finset.sum_congr rfl fun k _ => h1 k).trans ?_
  refine (Fin.sum_univ_eq_sum_range (fun k => ∑ p ∈ Finset.range 1048576, if binOf w (at1 X (1048576 * k + p)) = (i 0).val then (1 : EReal) else 0) 32).trans ?_
  exact sum_groups (fun p => if binOf w (at1 X p) = (i 0).val then (1 : EReal) else 0) 1048576 32

end Counts

/-! ## The largest absolute value -/

/-- The block's maximum lies below a bound exactly when every absolute value of the block does. -/
theorem pay1_le (v : Vec Ideal S512x4096 .f32) (z : EReal) :
    (k0_pay1 (F := Ideal) v : EReal) ≤ z ↔ ∀ j, max (v j : EReal) (-(v j)) ≤ z := by
  have hs : Subsingleton S1.Idx := ⟨fun a b => funext fun i => by
    have hi : i = 0 := Subsingleton.elim (α := Fin 1) i 0
    subst hi; exact Subsingleton.elim (α := Fin 1) _ _⟩
  exact extract_one _ shapeCasts_S1_S1x1x1 _ inpos_S1x1x1_p0_0_0 z _ fun j =>
    multi_abs_le v shapeCasts_S512x4096_S512x4096 shapeCasts_S512x4096_S1x512x4096 reduces_S1x512x4096_S1 _ _ j z

section Steps
variable {F : FTy → Type} [FloatOps F] (A : Vec F S8192x4096 .f32)

/-- The running maximum after the first point. -/
theorem chain_zero : chain A 0 = k0_pay1 (blkAt A 0) := rfl

/-- The running maximum after a further point. -/
theorem chain_succ (n : ℕ) : chain A (n + 1) = Scalar.maximumf (chain A n) (k0_pay1 (blkAt A (n + 1))) := rfl

end Steps

/-- The running maximum after `n` points lies below a bound exactly when every absolute value of the blocks so far does. -/
theorem chain_le (A : Vec Ideal S8192x4096 .f32) (n : ℕ) (z : EReal) :
    (chain A n : EReal) ≤ z ↔ ∀ k ≤ n, ∀ j, max (blkAt A k j : EReal) (-(blkAt A k j)) ≤ z := by
  induction n with
  | zero =>
    rw [chain_zero, pay1_le]
    exact ⟨fun h k hk => by rw [Nat.le_zero.1 hk]; exact h, fun h => h 0 le_rfl⟩
  | succ n ih =>
    rw [chain_succ, Ideal.scalar_maximumf_def, max_le_iff, ih, pay1_le]
    constructor
    · rintro ⟨h, h'⟩ k hk
      rcases Nat.le_succ_iff.1 hk with h2 | h2
      · exact h k h2
      · rw [h2]; exact h'
    · exact fun h => ⟨fun k hk => h k (Nat.le_succ_of_le hk), h (n + 1) le_rfl⟩

/-- After the sixteen points it bounds the whole array. -/
theorem chain15_le (A : Vec Ideal S8192x4096 .f32) (z : EReal) :
    (chain A 15 : EReal) ≤ z ↔ ∀ i, max (A i : EReal) (-(A i)) ≤ z := by
  rw [chain_le]
  constructor
  · intro h i
    have h0 : (i 0).val < 8192 := (i 0).isLt
    have h1 : (i 1).val < 4096 := (i 1).isLt
    have := h ((i 0).val / 512) (by omega) (fun a => match a with
      | ⟨0, _⟩ => (⟨(i 0).val % 512, Nat.mod_lt _ (by norm_num)⟩ : Fin 512)
      | ⟨1, _⟩ => (⟨(i 1).val, h1⟩ : Fin 4096))
    have e : blkAt A ((i 0).val / 512) (fun a => match a with
      | ⟨0, _⟩ => (⟨(i 0).val % 512, Nat.mod_lt _ (by norm_num)⟩ : Fin 512)
      | ⟨1, _⟩ => (⟨(i 1).val, h1⟩ : Fin 4096)) = A i := by
      unfold blkAt
      congr 1
      funext a
      match a with
      | ⟨0, _⟩ =>
        apply Fin.ext
        show (512 * ((i 0).val / 512) + (i 0).val % 512) % 8192 = (i 0).val
        omega
      | ⟨1, _⟩ => rfl
    rw [e] at this
    exact this
  · exact fun h k _ j => h _

variable (m : (ℓ : Loc nD τ sig) → Buf (Elt Ideal) ℓ)

/-- The argument's contents. -/
abbrev arg (d : Dev nD) : Vec Ideal S4x2048x4096 .f32 := m (d, rf main_arg0)

/-- The largest absolute value bounds the input. -/
theorem xmax_le (d : Dev nD) (z : EReal) :
    (xmax m d : EReal) ≤ z ↔ ∀ i, max (arg m d i : EReal) (-(arg m d i)) ≤ z :=
  (chain15_le _ z).trans (shapeCast_forall (arg m d) shapeCasts_S4x2048x4096_S8192x4096 (fun y : EReal => max y (-y) ≤ z))

end Cert.KernelIdeal.Own

end
-- ==== Proof.KernelIdealResult.lean ====
/-
  The kernel's two results over the extended reals are the reference's: the word each lane counts at is the bin of its element, and both
  sides' counts and edges are one function of the input's largest absolute value.
-/
module

public import proofs.«01_k».proof.Proof.KernelIdealWords
public import proofs.«01_k».proof.Proof.KernelIdealValue
public import proofs.«01_k».proof.Proof.ReferenceValue
public import proofs.«01_k».proof.Proof.Gen.Pre_some_nonzero

@[expose] public section

noncomputable section

namespace Cert.KernelIdeal.Own

open Cert.KernelIdeal Cert.KernelIdeal.Gen Cert.Bins
open Idealize.ShloMosaic Idealize.ShloMosaic.ValueIdx Idealize.ShloMosaic.Ideal

variable (m : (ℓ : Loc nD τ sig) → Buf (Elt Ideal) ℓ) (d : Dev nD)

/-- The width is the largest absolute value over 2048. -/
theorem width_at (k : S_.Idx) : (width m d k : EReal) = Ideal.div (xmax m d) ((2048 : ℝ) : EReal) :=
  host_width' (fun _ => xmax m d) _ (fun _ => ofBits_2048) k

/-- Every lane holds the width. -/
theorem Wd_at (x : S16.Idx) : (Wd m d x : EReal) = Ideal.div (xmax m d) ((2048 : ℝ) : EReal) := by
  unfold Wd
  rw [VC_v5, broadcastInDim_scalar_apply, width_at]

/-- The largest absolute value bounds the flat input. -/
theorem xmax_flat (z : EReal) : (xmax m d : EReal) ≤ z ↔ ∀ i, max (Xd m d i : EReal) (-(Xd m d i)) ≤ z := by
  unfold Xd
  rw [VC_v4]
  exact (xmax_le m d z).trans (shapeCast_forall (arg m d) shapeCasts_S4x2048x4096_S33554432 (fun y : EReal => max y (-y) ≤ z)).symm

variable (hpay : ∀ (v : Vec Ideal S16 .f32) (x : S16.Idx), (k1_pay3 (F := Ideal) (Wd m d) v x).toNat
  = 2048 * (x 0).val + binOf (Ideal.div (xmax m d) ((2048 : ℝ) : EReal)) (v x))

include hpay in
/-- The counts are the reference's. -/
theorem hist_eq : (Host.reduceAdd (OUT (Xd m d) (Wd m d)) (constant S_ .f32 0x00000000#32) reducesTo_S32x2048_S2048_d0 h_S_ : Vec Ideal S2048 .f32)
    = Cert.ReferenceIdeal.Own.histX (Xd m d) := by
  funext i
  refine (counts_eq (Xd m d) (Wd m d) _ hpay i).trans ?_
  refine Eq.trans ?_ (Cert.ReferenceIdeal.Own.histX_at (Xd m d) (xmax m d) (xmax_flat m d) i).symm
  refine (Fin.sum_univ_eq_sum_range (fun p => if binOf (Ideal.div (xmax m d) ((2048 : ℝ) : EReal)) (at1 (Xd m d) p) = (i 0).val then (1 : EReal) else 0)
    33554432).symm.trans ?_
  refine Finset.sum_congr rfl fun p _ => ?_
  have e : at1 (Xd m d) p.val = Xd m d (ix1 p) := by
    unfold at1
    refine congrArg (Xd m d) (funext fun a => ?_)
    obtain rfl : a = 0 := Subsingleton.elim (α := Fin 1) _ _
    exact Fin.ext (Nat.mod_eq_of_lt p.isLt)
  rw [e]

/-- The edges are the reference's. -/
theorem edge_eq : (mulf (sitofp .f32 (iotaInDim S2049 32 0)) (broadcastInDim S2049 ![] bcast_S_S2049 (width m d)) : Vec Ideal S2049 .f32)
    = Cert.ReferenceIdeal.Own.edgeX (Xd m d) := by
  funext x
  have hx : (x 0).val < 4096 := lt_trans (x 0).isLt (by decide)
  refine (kernel_edge (width m d) bcast_S_S2049 x hx).trans ?_
  refine Eq.trans ?_ (Cert.ReferenceIdeal.Own.edgeX_at (Xd m d) (xmax m d) (xmax_flat m d) x).symm
  rw [width_at]

/-- The precondition: the largest absolute value is positive. -/
theorem pre_pos (h : Cert.Pre_some_nonzero.fn (F := Ideal) (arg m d) = fun _ => 1#1) : (0 : EReal) < xmax m d := by
  haveI : Subsingleton S_.Idx := ⟨fun a b => funext fun i => i.elim0⟩
  have e : (Host.reduce (FloatOps.maximumf (F := Ideal) (φ := .f32)) (Host.absf (F := Ideal) (φ := .f32) (arg m d)) (constant (F := Ideal) S_ .f32 0xFF800000#32)
      Cert.Pre_some_nonzero.Gen.reducesTo_S4x2048x4096_S_d0_1_2 Cert.Pre_some_nonzero.Gen.h_S_ ix0 : EReal) = xmax m d := by
    refine eq_of_forall_ge_iff fun z => ?_
    exact (hostMax_le (Host.absf (F := Ideal) (φ := .f32) (arg m d)) (constant (F := Ideal) S_ .f32 0xFF800000#32) Cert.Pre_some_nonzero.Gen.reducesTo_S4x2048x4096_S_d0_1_2 Cert.Pre_some_nonzero.Gen.h_S_ (fun _ => ofBits_bot) ix0 z).trans
      (xmax_le m d z).symm
  have h0 := ogt_zero _ _ (fun _ => ofBits_zero_f32) ix0 (congrFun h ix0)
  rwa [e] at h0

/-- So the width is. -/
theorem width_pos (h : (0 : EReal) < xmax m d) : 0 < Ideal.div (xmax m d) ((2048 : ℝ) : EReal) := by
  rw [Ideal.div_coe (by norm_num)]
  exact EReal.mul_pos h (by exact_mod_cast (by norm_num : (0 : ℝ) < 1 / 2048))

end Cert.KernelIdeal.Own

end
-- ==== Proof.lean ====
/- The proof of every claim: the kernel with its bin index clamped from below runs and computes what the reference does, with no
   precondition; the kernel as it stands does the same, over the extended reals, of an input that is not all zero. -/
module

public import proofs.«01_k».proof.Defs
public import proofs.«01_k».proof.Proof.ClampedRun
public import proofs.«01_k».proof.Proof.ClampedWords
public import proofs.«01_k».proof.Proof.ClampedIdealResult
public import proofs.«01_k».proof.Proof.KernelIdealWords
public import proofs.«01_k».proof.Proof.KernelIdealResult
public import proofs.«01_k».proof.Proof.ReferenceValue
public import proofs.«01_k».proof.Proof.Gen.Pre_some_nonzero
public import Idealize.ShloMosaic.Adequacy
public import Idealize.ShloMosaic.Init

@[expose] public section

noncomputable section

namespace Cert.Proof

open Idealize.ShloMosaic Idealize.SL.Sem

/-- The clamped kernel's frame, at the machine's floats. -/
theorem frame_clamped : quiescent_Clamped (hClamped := Cert.Clamped.Gen.facts) := fun m g _ =>
  (θ_run _ _ _).mono (fun r h => ⟨fun c => (h.1 c).1, h.2⟩) (Cert.Clamped.Own.run_main m g fun d v => Cert.Clamped.Own.chk_all _ v)

/-- The clamped kernel's frame, over the extended reals. -/
theorem frame_clamped_ideal : quiescent_ClampedIdeal (hClampedIdeal := Cert.ClampedIdeal.Gen.facts) := fun m g _ =>
  (θ_run _ _ _).mono (fun r h => ⟨fun c => (h.1 c).1, h.2⟩) (Cert.ClampedIdeal.Own.run_main m g fun d v => Cert.ClampedIdeal.Own.chk_all _ v)

/-- The reference's frame. -/
theorem frame_reference : quiescent_ReferenceIdeal (hReferenceIdeal := Cert.ReferenceIdeal.Gen.facts) := fun m g _ =>
  (θ_run _ _ _).mono (fun r h => ⟨fun c => (h.1 c).2.2, h.2⟩) (Cert.ReferenceIdeal.Own.run_named m g)

/-- The reference's frame under the precondition. -/
theorem frame_reference_pre : quiescent_ReferenceIdeal_pre_some_nonzero (hReferenceIdeal := Cert.ReferenceIdeal.Gen.facts)
    (hPre_some_nonzero := Cert.Pre_some_nonzero.Gen.facts) := fun m g _ => frame_reference m g trivial

/-- Every lane's word in the kernel as it stands, from the precondition. -/
theorem kernel_pay (m : (ℓ : Loc Cert.KernelIdeal.nD Cert.KernelIdeal.τ Cert.KernelIdeal.sig) → Buf (Elt Ideal) ℓ)
    (hm : Pre_KernelIdeal (hPre_some_nonzero := Cert.Pre_some_nonzero.Gen.facts) m) (d : Dev Cert.KernelIdeal.nD)
    (v : Vec Ideal Cert.KernelIdeal.S16 .f32) (x : Cert.KernelIdeal.S16.Idx) :
    (Cert.KernelIdeal.Gen.k1_pay3 (F := Ideal) (Cert.KernelIdeal.Own.Wd m d) v x).toNat
      = 2048 * (x 0).val + Cert.Bins.binOf (Ideal.div (Cert.KernelIdeal.Own.xmax m d) ((2048 : ℝ) : EReal)) (v x) :=
  Cert.KernelIdeal.Own.pay_bin _ _ (Cert.KernelIdeal.Own.Wd_at m d)
    (Cert.KernelIdeal.Own.width_pos m d (Cert.KernelIdeal.Own.pre_pos m d (hm d))) v x

/-- The run of the kernel as it stands, from the precondition. -/
theorem kernel_run (m : (ℓ : Loc Cert.KernelIdeal.nD Cert.KernelIdeal.τ Cert.KernelIdeal.sig) → Buf (Elt Ideal) ℓ)
    (g : Dev Cert.KernelIdeal.nD → PrngReg) (hm : Pre_KernelIdeal (hPre_some_nonzero := Cert.Pre_some_nonzero.Gen.facts) m) :
    θ_run (Cert.KernelIdeal.defs (F := Ideal)) (Cert.KernelIdeal.threads (F := Ideal)) ⟨m, fun _ => 0, g⟩ (Cert.KernelIdeal.Own.QC m) :=
  Cert.KernelIdeal.Own.run_main m g fun d v => Cert.KernelIdeal.Own.chk_of_pay _ _ (kernel_pay m hm d) v

/-- The frame of the kernel as it stands, over the extended reals. -/
theorem frame_kernel_ideal : quiescent_KernelIdeal (hKernelIdeal := Cert.KernelIdeal.Gen.facts)
    (hPre_some_nonzero := Cert.Pre_some_nonzero.Gen.facts) := fun m g hm =>
  (θ_run _ _ _).mono (fun r h => ⟨fun c => (h.1 c).1, h.2⟩) (kernel_run m g hm)

/-- The clamped kernel and the reference end with the same two results. -/
theorem algebraic_clamped : algebraic_ClampedIdeal_ReferenceIdeal (hClampedIdeal := Cert.ClampedIdeal.Gen.facts) (hReferenceIdeal := Cert.ReferenceIdeal.Gen.facts) := by
  intro m g m' g' hm hmm
  have hflat : ∀ c : Dev Cert.ClampedIdeal.nD, Cert.ReferenceIdeal.Own.flat m' c = Cert.ClampedIdeal.Own.Xd m c := fun c => by
    unfold Cert.ClampedIdeal.Own.Xd
    rw [Cert.ClampedIdeal.Own.VC_v4]
    exact congrArg (fun y => shapeCast Cert.ClampedIdeal.S33554432 y Cert.ClampedIdeal.Gen.facts.shapeCasts_S4x2048x4096_S33554432) (hmm c)
  refine ⟨fun c => Cert.ReferenceIdeal.Own.histX (Cert.ClampedIdeal.Own.Xd m c), fun c => Cert.ReferenceIdeal.Own.edgeX (Cert.ClampedIdeal.Own.Xd m c), ?_, ?_⟩
  · refine (θ_run _ _ _).mono (fun r h c => ⟨(h.1 c).2.1.trans ?_, (h.1 c).2.2.trans ?_, (h.1 c).1⟩) (Cert.ClampedIdeal.Own.run_main m g fun d v => Cert.ClampedIdeal.Own.chk_all _ v)
    · exact Cert.ClampedIdeal.Own.hist_eq m c (Cert.ClampedIdeal.Own.pay_bin _ _ (Cert.ClampedIdeal.Own.Wd_at m c))
    · exact Cert.ClampedIdeal.Own.edge_eq m c
  · refine (θ_run _ _ _).mono (fun r h c => ⟨(h.1 c).1.trans ?_, (h.1 c).2.1.trans ?_, (h.1 c).2.2⟩) (Cert.ReferenceIdeal.Own.run_named m' g')
    · exact congrArg Cert.ReferenceIdeal.Own.histX (hflat c)
    · exact congrArg Cert.ReferenceIdeal.Own.edgeX (hflat c)

/-- The kernel as it stands and the reference end with the same two results, from the precondition. -/
theorem algebraic_kernel : algebraic_KernelIdeal_ReferenceIdeal (hKernelIdeal := Cert.KernelIdeal.Gen.facts) (hReferenceIdeal := Cert.ReferenceIdeal.Gen.facts)
    (hPre_some_nonzero := Cert.Pre_some_nonzero.Gen.facts) := by
  intro m g m' g' hm hmm
  have hflat : ∀ c : Dev Cert.KernelIdeal.nD, Cert.ReferenceIdeal.Own.flat m' c = Cert.KernelIdeal.Own.Xd m c := fun c => by
    unfold Cert.KernelIdeal.Own.Xd
    rw [Cert.KernelIdeal.Own.VC_v4]
    exact congrArg (fun y => shapeCast Cert.KernelIdeal.S33554432 y Cert.KernelIdeal.Gen.facts.shapeCasts_S4x2048x4096_S33554432) (hmm c)
  refine ⟨fun c => Cert.ReferenceIdeal.Own.histX (Cert.KernelIdeal.Own.Xd m c), fun c => Cert.ReferenceIdeal.Own.edgeX (Cert.KernelIdeal.Own.Xd m c), ?_, ?_⟩
  · refine (θ_run _ _ _).mono (fun r h c => ⟨(h.1 c).2.1.trans ?_, (h.1 c).2.2.trans ?_, (h.1 c).1⟩) (kernel_run m g hm)
    · exact Cert.KernelIdeal.Own.hist_eq m c (kernel_pay m hm c)
    · exact Cert.KernelIdeal.Own.edge_eq m c
  · refine (θ_run _ _ _).mono (fun r h c => ⟨(h.1 c).1.trans ?_, (h.1 c).2.1.trans ?_, (h.1 c).2.2⟩) (Cert.ReferenceIdeal.Own.run_named m' g')
    · exact congrArg Cert.ReferenceIdeal.Own.histX (hflat c)
    · exact congrArg Cert.ReferenceIdeal.Own.edgeX (hflat c)

/-- Everything claimed. -/
theorem claim : Cert.Claim :=
  ⟨Cert.Clamped.Gen.facts, Cert.ClampedIdeal.Gen.facts, Cert.ReferenceIdeal.Gen.facts, Cert.KernelIdeal.Gen.facts, Cert.Pre_some_nonzero.Gen.facts,
    frame_clamped, frame_clamped_ideal, frame_reference, frame_reference_pre, frame_kernel_ideal, trivial, algebraic_clamped, algebraic_kernel⟩

end Cert.Proof

end
